-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelR (m : (ℓ : Loc Cert.KernelR.nD Cert.KernelR.τ Cert.KernelR.sig) → Buf (Elt Bits) ℓ) : Prop :=
  True

def Pre_KernelRIdeal (m : (ℓ : Loc Cert.KernelRIdeal.nD Cert.KernelRIdeal.τ Cert.KernelRIdeal.sig) → Buf (Elt Ideal) ℓ) : Prop :=
  True

def Pre_ReferenceRIdeal (m : (ℓ : Loc Cert.ReferenceRIdeal.nD Cert.ReferenceRIdeal.τ Cert.ReferenceRIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelCmp (m : (ℓ : Loc Cert.KernelCmp.nD Cert.KernelCmp.τ Cert.KernelCmp.sig) → Buf (Elt Bits) ℓ) : Prop :=
  True

def Pre_KernelCmpIdeal (m : (ℓ : Loc Cert.KernelCmpIdeal.nD Cert.KernelCmpIdeal.τ Cert.KernelCmpIdeal.sig) → Buf (Elt Ideal) ℓ) : Prop :=
  True

def Pre_ReferenceCmpIdeal (m : (ℓ : Loc Cert.ReferenceCmpIdeal.nD Cert.ReferenceCmpIdeal.τ Cert.ReferenceCmpIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelR [hKernelR : Cert.KernelR.Facts] : Prop :=
  ∀ (m : (ℓ : Loc Cert.KernelR.nD Cert.KernelR.τ Cert.KernelR.sig) → Buf (Elt Bits) ℓ) (g : Dev Cert.KernelR.nD → PrngReg), Pre_KernelR m →
    θ_run (Cert.KernelR.defs (F := Bits)) (onTc (τ := Cert.KernelR.τ) (Cert.KernelR.main (F := Bits))) ⟨m, fun _ => 0, g⟩ (fun r => (∀ c : Dev Cert.KernelR.nD,
      r.2.mem ((c.tc : Thread Cert.KernelR.nD Cert.KernelR.τ).loc Cert.KernelR.main_arg0) = m ((c.tc : Thread Cert.KernelR.nD Cert.KernelR.τ).loc Cert.KernelR.main_arg0)
      ∧ r.2.mem ((c.tc : Thread Cert.KernelR.nD Cert.KernelR.τ).loc Cert.KernelR.main_arg1) = m ((c.tc : Thread Cert.KernelR.nD Cert.KernelR.τ).loc Cert.KernelR.main_arg1)
      ∧ r.2.mem ((c.tc : Thread Cert.KernelR.nD Cert.KernelR.τ).loc Cert.KernelR.main_arg2) = m ((c.tc : Thread Cert.KernelR.nD Cert.KernelR.τ).loc Cert.KernelR.main_arg2))
      ∧ r.2.sem = fun _ => 0)

def quiescent_KernelRIdeal [hKernelRIdeal : Cert.KernelRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg), Pre_KernelRIdeal m →
    θ_run (Cert.KernelRIdeal.defs (F := Ideal)) (onTc (τ := Cert.KernelRIdeal.τ) (Cert.KernelRIdeal.main (F := Ideal))) ⟨m, fun _ => 0, g⟩ (fun r => (∀ c : Dev Cert.KernelRIdeal.nD,
      r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
      ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
      ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ r.2.sem = fun _ => 0)

def quiescent_ReferenceRIdeal [hReferenceRIdeal : Cert.ReferenceRIdeal.Facts] : Prop :=
  ∀ (m : (ℓ : Loc Cert.ReferenceRIdeal.nD Cert.ReferenceRIdeal.τ Cert.ReferenceRIdeal.sig) → Buf (Elt Ideal) ℓ) (g : Dev Cert.ReferenceRIdeal.nD → PrngReg), Pre_ReferenceRIdeal m →
    θ_run (Cert.ReferenceRIdeal.defs (F := Ideal)) (onTc (τ := Cert.ReferenceRIdeal.τ) (Cert.ReferenceRIdeal.main (F := Ideal))) ⟨m, fun _ => 0, g⟩ (fun r => (∀ c : Dev Cert.ReferenceRIdeal.nD,
      r.2.mem ((c.tc : Thread Cert.ReferenceRIdeal.nD Cert.ReferenceRIdeal.τ).loc Cert.ReferenceRIdeal.main_arg0) = m ((c.tc : Thread Cert.ReferenceRIdeal.nD Cert.ReferenceRIdeal.τ).loc Cert.ReferenceRIdeal.main_arg0)
      ∧ r.2.mem ((c.tc : Thread Cert.ReferenceRIdeal.nD Cert.ReferenceRIdeal.τ).loc Cert.ReferenceRIdeal.main_arg1) = m ((c.tc : Thread Cert.ReferenceRIdeal.nD Cert.ReferenceRIdeal.τ).loc Cert.ReferenceRIdeal.main_arg1)
      ∧ r.2.mem ((c.tc : Thread Cert.ReferenceRIdeal.nD Cert.ReferenceRIdeal.τ).loc Cert.ReferenceRIdeal.main_arg2) = m ((c.tc : Thread Cert.ReferenceRIdeal.nD Cert.ReferenceRIdeal.τ).loc Cert.ReferenceRIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelCmp [hKernelCmp : Cert.KernelCmp.Facts] : Prop :=
  ∀ (m : (ℓ : Loc Cert.KernelCmp.nD Cert.KernelCmp.τ Cert.KernelCmp.sig) → Buf (Elt Bits) ℓ) (g : Dev Cert.KernelCmp.nD → PrngReg), Pre_KernelCmp m →
    θ_run (Cert.KernelCmp.defs (F := Bits)) (onTc (τ := Cert.KernelCmp.τ) (Cert.KernelCmp.main (F := Bits))) ⟨m, fun _ => 0, g⟩ (fun r => (∀ c : Dev Cert.KernelCmp.nD,
      r.2.mem ((c.tc : Thread Cert.KernelCmp.nD Cert.KernelCmp.τ).loc Cert.KernelCmp.main_arg0) = m ((c.tc : Thread Cert.KernelCmp.nD Cert.KernelCmp.τ).loc Cert.KernelCmp.main_arg0)
      ∧ r.2.mem ((c.tc : Thread Cert.KernelCmp.nD Cert.KernelCmp.τ).loc Cert.KernelCmp.main_arg1) = m ((c.tc : Thread Cert.KernelCmp.nD Cert.KernelCmp.τ).loc Cert.KernelCmp.main_arg1)
      ∧ r.2.mem ((c.tc : Thread Cert.KernelCmp.nD Cert.KernelCmp.τ).loc Cert.KernelCmp.main_arg2) = m ((c.tc : Thread Cert.KernelCmp.nD Cert.KernelCmp.τ).loc Cert.KernelCmp.main_arg2))
      ∧ r.2.sem = fun _ => 0)

def quiescent_KernelCmpIdeal [hKernelCmpIdeal : Cert.KernelCmpIdeal.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg), Pre_KernelCmpIdeal m →
    θ_run (Cert.KernelCmpIdeal.defs (F := Ideal)) (onTc (τ := Cert.KernelCmpIdeal.τ) (Cert.KernelCmpIdeal.main (F := Ideal))) ⟨m, fun _ => 0, g⟩ (fun r => (∀ c : Dev Cert.KernelCmpIdeal.nD,
      r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
      ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
      ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2))
      ∧ r.2.sem = fun _ => 0)

def quiescent_ReferenceCmpIdeal [hReferenceCmpIdeal : Cert.ReferenceCmpIdeal.Facts] : Prop :=
  ∀ (m : (ℓ : Loc Cert.ReferenceCmpIdeal.nD Cert.ReferenceCmpIdeal.τ Cert.ReferenceCmpIdeal.sig) → Buf (Elt Ideal) ℓ) (g : Dev Cert.ReferenceCmpIdeal.nD → PrngReg), Pre_ReferenceCmpIdeal m →
    θ_run (Cert.ReferenceCmpIdeal.defs (F := Ideal)) (onTc (τ := Cert.ReferenceCmpIdeal.τ) (Cert.ReferenceCmpIdeal.main (F := Ideal))) ⟨m, fun _ => 0, g⟩ (fun r => (∀ c : Dev Cert.ReferenceCmpIdeal.nD,
      r.2.mem ((c.tc : Thread Cert.ReferenceCmpIdeal.nD Cert.ReferenceCmpIdeal.τ).loc Cert.ReferenceCmpIdeal.main_arg0) = m ((c.tc : Thread Cert.ReferenceCmpIdeal.nD Cert.ReferenceCmpIdeal.τ).loc Cert.ReferenceCmpIdeal.main_arg0)
      ∧ r.2.mem ((c.tc : Thread Cert.ReferenceCmpIdeal.nD Cert.ReferenceCmpIdeal.τ).loc Cert.ReferenceCmpIdeal.main_arg1) = m ((c.tc : Thread Cert.ReferenceCmpIdeal.nD Cert.ReferenceCmpIdeal.τ).loc Cert.ReferenceCmpIdeal.main_arg1)
      ∧ r.2.mem ((c.tc : Thread Cert.ReferenceCmpIdeal.nD Cert.ReferenceCmpIdeal.τ).loc Cert.ReferenceCmpIdeal.main_arg2) = m ((c.tc : Thread Cert.ReferenceCmpIdeal.nD Cert.ReferenceCmpIdeal.τ).loc Cert.ReferenceCmpIdeal.main_arg2))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v13) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v2)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v2) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v13) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v2)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v2) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v16) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelR_KernelRIdeal : Prop :=
  True

def algebraic_KernelRIdeal_ReferenceRIdeal [hKernelRIdeal : Cert.KernelRIdeal.Facts] [hReferenceRIdeal : Cert.ReferenceRIdeal.Facts] : Prop :=
  ∀ (m : (ℓ : Loc Cert.KernelRIdeal.nD Cert.KernelRIdeal.τ Cert.KernelRIdeal.sig) → Buf (Elt Ideal) ℓ) (g : Dev Cert.KernelRIdeal.nD → PrngReg)
    (m' : (ℓ : Loc Cert.ReferenceRIdeal.nD Cert.ReferenceRIdeal.τ Cert.ReferenceRIdeal.sig) → Buf (Elt Ideal) ℓ) (g' : Dev Cert.ReferenceRIdeal.nD → PrngReg), Pre_KernelRIdeal m →
    (∀ c : Dev Cert.KernelRIdeal.nD,
      m' ((c.tc : Thread Cert.ReferenceRIdeal.nD Cert.ReferenceRIdeal.τ).loc Cert.ReferenceRIdeal.main_arg0) = m ((c.tc : Thread Cert.KernelRIdeal.nD Cert.KernelRIdeal.τ).loc Cert.KernelRIdeal.main_arg0)
      ∧ m' ((c.tc : Thread Cert.ReferenceRIdeal.nD Cert.ReferenceRIdeal.τ).loc Cert.ReferenceRIdeal.main_arg1) = m ((c.tc : Thread Cert.KernelRIdeal.nD Cert.KernelRIdeal.τ).loc Cert.KernelRIdeal.main_arg1)
      ∧ m' ((c.tc : Thread Cert.ReferenceRIdeal.nD Cert.ReferenceRIdeal.τ).loc Cert.ReferenceRIdeal.main_arg2) = m ((c.tc : Thread Cert.KernelRIdeal.nD Cert.KernelRIdeal.τ).loc Cert.KernelRIdeal.main_arg2)) →
    ∃ (v0 : (c : Dev Cert.KernelRIdeal.nD) → Buf (Elt Ideal) ((c.tc : Thread Cert.KernelRIdeal.nD Cert.KernelRIdeal.τ).loc Cert.KernelRIdeal.main_v2)),
      θ_run (Cert.KernelRIdeal.defs (F := Ideal)) (onTc (τ := Cert.KernelRIdeal.τ) (Cert.KernelRIdeal.main (F := Ideal))) ⟨m, fun _ => 0, g⟩ (fun r => ∀ c : Dev Cert.KernelRIdeal.nD,
          r.2.mem ((c.tc : Thread Cert.KernelRIdeal.nD Cert.KernelRIdeal.τ).loc Cert.KernelRIdeal.main_v2) = v0 c
          ∧ r.2.mem ((c.tc : Thread Cert.KernelRIdeal.nD Cert.KernelRIdeal.τ).loc Cert.KernelRIdeal.main_arg0) = m ((c.tc : Thread Cert.KernelRIdeal.nD Cert.KernelRIdeal.τ).loc Cert.KernelRIdeal.main_arg0)
          ∧ r.2.mem ((c.tc : Thread Cert.KernelRIdeal.nD Cert.KernelRIdeal.τ).loc Cert.KernelRIdeal.main_arg1) = m ((c.tc : Thread Cert.KernelRIdeal.nD Cert.KernelRIdeal.τ).loc Cert.KernelRIdeal.main_arg1)
          ∧ r.2.mem ((c.tc : Thread Cert.KernelRIdeal.nD Cert.KernelRIdeal.τ).loc Cert.KernelRIdeal.main_arg2) = m ((c.tc : Thread Cert.KernelRIdeal.nD Cert.KernelRIdeal.τ).loc Cert.KernelRIdeal.main_arg2))
      ∧ θ_run (Cert.ReferenceRIdeal.defs (F := Ideal)) (onTc (τ := Cert.ReferenceRIdeal.τ) (Cert.ReferenceRIdeal.main (F := Ideal))) ⟨m', fun _ => 0, g'⟩ (fun r => ∀ c : Dev Cert.ReferenceRIdeal.nD,
          r.2.mem ((c.tc : Thread Cert.ReferenceRIdeal.nD Cert.ReferenceRIdeal.τ).loc Cert.ReferenceRIdeal.main_v13) = v0 c
          ∧ r.2.mem ((c.tc : Thread Cert.ReferenceRIdeal.nD Cert.ReferenceRIdeal.τ).loc Cert.ReferenceRIdeal.main_arg0) = m' ((c.tc : Thread Cert.ReferenceRIdeal.nD Cert.ReferenceRIdeal.τ).loc Cert.ReferenceRIdeal.main_arg0)
          ∧ r.2.mem ((c.tc : Thread Cert.ReferenceRIdeal.nD Cert.ReferenceRIdeal.τ).loc Cert.ReferenceRIdeal.main_arg1) = m' ((c.tc : Thread Cert.ReferenceRIdeal.nD Cert.ReferenceRIdeal.τ).loc Cert.ReferenceRIdeal.main_arg1)
          ∧ r.2.mem ((c.tc : Thread Cert.ReferenceRIdeal.nD Cert.ReferenceRIdeal.τ).loc Cert.ReferenceRIdeal.main_arg2) = m' ((c.tc : Thread Cert.ReferenceRIdeal.nD Cert.ReferenceRIdeal.τ).loc Cert.ReferenceRIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v15) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelCmp_KernelCmpIdeal : Prop :=
  True

def algebraic_KernelCmpIdeal_ReferenceCmpIdeal [hKernelCmpIdeal : Cert.KernelCmpIdeal.Facts] [hReferenceCmpIdeal : Cert.ReferenceCmpIdeal.Facts] : Prop :=
  ∀ (m : (ℓ : Loc Cert.KernelCmpIdeal.nD Cert.KernelCmpIdeal.τ Cert.KernelCmpIdeal.sig) → Buf (Elt Ideal) ℓ) (g : Dev Cert.KernelCmpIdeal.nD → PrngReg)
    (m' : (ℓ : Loc Cert.ReferenceCmpIdeal.nD Cert.ReferenceCmpIdeal.τ Cert.ReferenceCmpIdeal.sig) → Buf (Elt Ideal) ℓ) (g' : Dev Cert.ReferenceCmpIdeal.nD → PrngReg), Pre_KernelCmpIdeal m →
    (∀ c : Dev Cert.KernelCmpIdeal.nD,
      m' ((c.tc : Thread Cert.ReferenceCmpIdeal.nD Cert.ReferenceCmpIdeal.τ).loc Cert.ReferenceCmpIdeal.main_arg0) = m ((c.tc : Thread Cert.KernelCmpIdeal.nD Cert.KernelCmpIdeal.τ).loc Cert.KernelCmpIdeal.main_arg0)
      ∧ m' ((c.tc : Thread Cert.ReferenceCmpIdeal.nD Cert.ReferenceCmpIdeal.τ).loc Cert.ReferenceCmpIdeal.main_arg1) = m ((c.tc : Thread Cert.KernelCmpIdeal.nD Cert.KernelCmpIdeal.τ).loc Cert.KernelCmpIdeal.main_arg1)
      ∧ m' ((c.tc : Thread Cert.ReferenceCmpIdeal.nD Cert.ReferenceCmpIdeal.τ).loc Cert.ReferenceCmpIdeal.main_arg2) = m ((c.tc : Thread Cert.KernelCmpIdeal.nD Cert.KernelCmpIdeal.τ).loc Cert.KernelCmpIdeal.main_arg2)) →
    ∃ (v0 : (c : Dev Cert.KernelCmpIdeal.nD) → Buf (Elt Ideal) ((c.tc : Thread Cert.KernelCmpIdeal.nD Cert.KernelCmpIdeal.τ).loc Cert.KernelCmpIdeal.main_v37_0)),
      θ_run (Cert.KernelCmpIdeal.defs (F := Ideal)) (onTc (τ := Cert.KernelCmpIdeal.τ) (Cert.KernelCmpIdeal.main (F := Ideal))) ⟨m, fun _ => 0, g⟩ (fun r => ∀ c : Dev Cert.KernelCmpIdeal.nD,
          r.2.mem ((c.tc : Thread Cert.KernelCmpIdeal.nD Cert.KernelCmpIdeal.τ).loc Cert.KernelCmpIdeal.main_v37_0) = v0 c
          ∧ r.2.mem ((c.tc : Thread Cert.KernelCmpIdeal.nD Cert.KernelCmpIdeal.τ).loc Cert.KernelCmpIdeal.main_arg0) = m ((c.tc : Thread Cert.KernelCmpIdeal.nD Cert.KernelCmpIdeal.τ).loc Cert.KernelCmpIdeal.main_arg0)
          ∧ r.2.mem ((c.tc : Thread Cert.KernelCmpIdeal.nD Cert.KernelCmpIdeal.τ).loc Cert.KernelCmpIdeal.main_arg1) = m ((c.tc : Thread Cert.KernelCmpIdeal.nD Cert.KernelCmpIdeal.τ).loc Cert.KernelCmpIdeal.main_arg1)
          ∧ r.2.mem ((c.tc : Thread Cert.KernelCmpIdeal.nD Cert.KernelCmpIdeal.τ).loc Cert.KernelCmpIdeal.main_arg2) = m ((c.tc : Thread Cert.KernelCmpIdeal.nD Cert.KernelCmpIdeal.τ).loc Cert.KernelCmpIdeal.main_arg2))
      ∧ θ_run (Cert.ReferenceCmpIdeal.defs (F := Ideal)) (onTc (τ := Cert.ReferenceCmpIdeal.τ) (Cert.ReferenceCmpIdeal.main (F := Ideal))) ⟨m', fun _ => 0, g'⟩ (fun r => ∀ c : Dev Cert.ReferenceCmpIdeal.nD,
          r.2.mem ((c.tc : Thread Cert.ReferenceCmpIdeal.nD Cert.ReferenceCmpIdeal.τ).loc Cert.ReferenceCmpIdeal.main_v98) = v0 c
          ∧ r.2.mem ((c.tc : Thread Cert.ReferenceCmpIdeal.nD Cert.ReferenceCmpIdeal.τ).loc Cert.ReferenceCmpIdeal.main_arg0) = m' ((c.tc : Thread Cert.ReferenceCmpIdeal.nD Cert.ReferenceCmpIdeal.τ).loc Cert.ReferenceCmpIdeal.main_arg0)
          ∧ r.2.mem ((c.tc : Thread Cert.ReferenceCmpIdeal.nD Cert.ReferenceCmpIdeal.τ).loc Cert.ReferenceCmpIdeal.main_arg1) = m' ((c.tc : Thread Cert.ReferenceCmpIdeal.nD Cert.ReferenceCmpIdeal.τ).loc Cert.ReferenceCmpIdeal.main_arg1)
          ∧ r.2.mem ((c.tc : Thread Cert.ReferenceCmpIdeal.nD Cert.ReferenceCmpIdeal.τ).loc Cert.ReferenceCmpIdeal.main_arg2) = m' ((c.tc : Thread Cert.ReferenceCmpIdeal.nD Cert.ReferenceCmpIdeal.τ).loc Cert.ReferenceCmpIdeal.main_arg2))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernelIn : Cert.KernelIn.Facts) (hKernelInIdeal : Cert.KernelInIdeal.Facts) (hReferenceInIdeal : Cert.ReferenceInIdeal.Facts) (hKernelKv : Cert.KernelKv.Facts) (hKernelKvIdeal : Cert.KernelKvIdeal.Facts) (hReferenceKvIdeal : Cert.ReferenceKvIdeal.Facts) (hKernelQ : Cert.KernelQ.Facts) (hKernelQIdeal : Cert.KernelQIdeal.Facts) (hReferenceQIdeal : Cert.ReferenceQIdeal.Facts) (hKernelR : Cert.KernelR.Facts) (hKernelRIdeal : Cert.KernelRIdeal.Facts) (hReferenceRIdeal : Cert.ReferenceRIdeal.Facts) (hKernelOut : Cert.KernelOut.Facts) (hKernelOutIdeal : Cert.KernelOutIdeal.Facts) (hReferenceOutIdeal : Cert.ReferenceOutIdeal.Facts) (hKernelCmp : Cert.KernelCmp.Facts) (hKernelCmpIdeal : Cert.KernelCmpIdeal.Facts) (hReferenceCmpIdeal : Cert.ReferenceCmpIdeal.Facts) (hKernel : Cert.Kernel.Facts) (hKernelIdeal : Cert.KernelIdeal.Facts) (hReferenceIdeal : Cert.ReferenceIdeal.Facts) (hPre_finite : Cert.Pre_finite.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelR (hKernelR := hKernelR)
    ∧ quiescent_KernelRIdeal (hKernelRIdeal := hKernelRIdeal)
    ∧ quiescent_ReferenceRIdeal (hReferenceRIdeal := hReferenceRIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelCmp (hKernelCmp := hKernelCmp)
    ∧ quiescent_KernelCmpIdeal (hKernelCmpIdeal := hKernelCmpIdeal)
    ∧ quiescent_ReferenceCmpIdeal (hReferenceCmpIdeal := hReferenceCmpIdeal)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelKv_KernelKvIdeal
    ∧ algebraic_KernelKvIdeal_ReferenceKvIdeal (hKernelKvIdeal := hKernelKvIdeal) (hReferenceKvIdeal := hReferenceKvIdeal)
    ∧ preserves_KernelQ_KernelQIdeal
    ∧ algebraic_KernelQIdeal_ReferenceQIdeal (hKernelQIdeal := hKernelQIdeal) (hReferenceQIdeal := hReferenceQIdeal)
    ∧ preserves_KernelR_KernelRIdeal
    ∧ algebraic_KernelRIdeal_ReferenceRIdeal (hKernelRIdeal := hKernelRIdeal) (hReferenceRIdeal := hReferenceRIdeal)
    ∧ preserves_KernelOut_KernelOutIdeal
    ∧ algebraic_KernelOutIdeal_ReferenceOutIdeal (hKernelOutIdeal := hKernelOutIdeal) (hReferenceOutIdeal := hReferenceOutIdeal)
    ∧ preserves_KernelCmp_KernelCmpIdeal
    ∧ algebraic_KernelCmpIdeal_ReferenceCmpIdeal (hKernelCmpIdeal := hKernelCmpIdeal) (hReferenceCmpIdeal := hReferenceCmpIdeal)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S65536x2048 : Shape := ⟨2, ![65536, 2048]⟩
abbrev S65536x6144 : Shape := ⟨2, ![65536, 6144]⟩
abbrev S65536x128 : Shape := ⟨2, ![65536, 128]⟩
abbrev S1x2048 : Shape := ⟨2, ![1, 2048]⟩
abbrev S_ : Shape := ⟨0, ![]⟩
abbrev S65536x8 : Shape := ⟨2, ![65536, 8]⟩

class Facts : Prop where
  bitsLt_bf16_f32 : FTy.bits .bf16 < FTy.bits .f32
  bcast_S_S65536x2048 : S_.BroadcastsInDim S65536x2048 (![] : Fin 0 → Fin S65536x2048.rank)
  reducesTo_S65536x2048_S_d0_1 : S65536x2048.ReducesTo [0, 1] S_
  h_S_ : 0 < S_.numel
  slices_S65536x128_S65536x8_0_0 : S65536x128.Slices ![0, 0] S65536x8
  bcast_S_S65536x8 : S_.BroadcastsInDim S65536x8 (![] : Fin 0 → Fin S65536x8.rank)
  reducesTo_S65536x8_S_d0_1 : S65536x8.ReducesTo [0, 1] S_

variable [Facts]

def fn_part1 {F : FTy → Type} [FloatOps F] (main_v16 : IVec S_ 1) (main_v17 : FVec F S65536x8 .f32) : IVec S_ 1 :=
  let main_v18 : FVec F S65536x8 .f32 := Host.absf main_v17
  let main_cst_4 : FVec F S_ .f32 := constant S_ .f32 0x7F800000#32
  let main_v19 : FVec F S65536x8 .f32 := broadcastInDim S65536x8 ![] bcast_S_S65536x8 main_cst_4
  let main_v20 : IVec S65536x8 1 := cmpf .olt main_v18 main_v19
  let main_c_5 : IVec S_ 1 := constantI S_ 1 1#1
  let main_v21 : IVec S_ 1 := (fun x v => Host.reduce IntOp.andi x v reducesTo_S65536x8_S_d0_1 h_S_) main_v20 main_c_5
  let main_v22 : IVec S_ 1 := andi main_v16 main_v21
  main_v22

def fn {F : FTy → Type} [FloatOps F] (main_arg0 : FVec F S65536x2048 .bf16) (main_arg1 : FVec F S65536x2048 .bf16) (main_arg2 : FVec F S65536x2048 .bf16) (main_arg3 : FVec F S65536x2048 .bf16) (main_arg4 : FVec F S65536x6144 .f32) (main_arg5 : FVec F S65536x128 .f32) (main_arg6 : FVec F S1x2048 .f32) (main_arg7 : FVec F S1x2048 .f32) : IVec S_ 1 :=
  let main_v0 : FVec F S65536x2048 .f32 := (extf .f32 · bitsLt_bf16_f32) main_arg0
  let main_v1 : FVec F S65536x2048 .f32 := Host.absf main_v0
  let main_cst : FVec F S_ .f32 := constant S_ .f32 0x7F800000#32
  let main_v2 : FVec F S65536x2048 .f32 := broadcastInDim S65536x2048 ![] bcast_S_S65536x2048 main_cst
  let main_v3 : IVec S65536x2048 1 := cmpf .olt main_v1 main_v2
  let main_c : IVec S_ 1 := constantI S_ 1 1#1
  let main_v4 : IVec S_ 1 := (fun x v => Host.reduce IntOp.andi x v reducesTo_S65536x2048_S_d0_1 h_S_) main_v3 main_c
  let main_v5 : FVec F S65536x2048 .f32 := (extf .f32 · bitsLt_bf16_f32) main_arg1
  let main_v6 : FVec F S65536x2048 .f32 := Host.absf main_v5
  let main_cst_0 : FVec F S_ .f32 := constant S_ .f32 0x7F800000#32
  let main_v7 : FVec F S65536x2048 .f32 := broadcastInDim S65536x2048 ![] bcast_S_S65536x2048 main_cst_0
  let main_v8 : IVec S65536x2048 1 := cmpf .olt main_v6 main_v7
  let main_c_1 : IVec S_ 1 := constantI S_ 1 1#1
  let main_v9 : IVec S_ 1 := (fun x v => Host.reduce IntOp.andi x v reducesTo_S65536x2048_S_d0_1 h_S_) main_v8 main_c_1
  let main_v10 : IVec S_ 1 := andi main_v4 main_v9
  let main_v11 : FVec F S65536x2048 .f32 := (extf .f32 · bitsLt_bf16_f32) main_arg2
  let main_v12 : FVec F S65536x2048 .f32 := Host.absf main_v11
  let main_cst_2 : FVec F S_ .f32 := constant S_ .f32 0x7F800000#32
  let main_v13 : FVec F S65536x2048 .f32 := broadcastInDim S65536x2048 ![] bcast_S_S65536x2048 main_cst_2
  let main_v14 : IVec S65536x2048 1 := cmpf .olt main_v12 main_v13
  let main_c_3 : IVec S_ 1 := constantI S_ 1 1#1
  let main_v15 : IVec S_ 1 := (fun x v => Host.reduce IntOp.andi x v reducesTo_S65536x2048_S_d0_1 h_S_) main_v14 main_c_3
  let main_v16 : IVec S_ 1 := andi main_v10 main_v15
  let main_v17 : FVec F S65536x8 .f32 := (extractStridedSlice S65536x8 ![0, 0] · slices_S65536x128_S65536x8_0_0) main_arg5
  fn_part1 (F := F) main_v16 main_v17
-- ==== KernelIn.lean ====
abbrev S65536x1024 : Shape := ⟨2, ![65536, 1024]⟩
abbrev S1024 : Shape := ⟨1, ![1024]⟩
abbrev S1024x6144 : Shape := ⟨2, ![1024, 6144]⟩
abbrev S1x1024 : Shape := ⟨2, ![1, 1024]⟩
abbrev S65536x6144 : Shape := ⟨2, ![65536, 6144]⟩
abbrev S1024x1024 : Shape := ⟨2, ![1024, 1024]⟩
abbrev S1024x2048 : Shape := ⟨2, ![1024, 2048]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S1x1024, .f32⟩
  | .hbm, ⟨5, _⟩ => ⟨S65536x6144, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | .local _ .vmem, ⟨6, _⟩ => ⟨S1024x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceInIdeal.lean ====
abbrev S65536x1024 : Shape := ⟨2, ![65536, 1024]⟩
abbrev S1024 : Shape := ⟨1, ![1024]⟩
abbrev S1024x6144 : Shape := ⟨2, ![1024, 6144]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6144 : Shape := ⟨2, ![65536, 6144]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6144, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x6144, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelKv.lean ====
abbrev S65536x1024 : Shape := ⟨2, ![65536, 1024]⟩
abbrev S1024 : Shape := ⟨1, ![1024]⟩
abbrev S1024x1536 : Shape := ⟨2, ![1024, 1536]⟩
abbrev S1x1024 : Shape := ⟨2, ![1, 1024]⟩
abbrev S65536x1536 : Shape := ⟨2, ![65536, 1536]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S1024x1536, .bf16⟩
  | .hbm, ⟨4, _⟩ => ⟨S1x1024, .f32⟩
  | .hbm, ⟨5, _⟩ => ⟨S65536x1536, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceKvIdeal.lean ====
abbrev S65536x1024 : Shape := ⟨2, ![65536, 1024]⟩
abbrev S1024 : Shape := ⟨1, ![1024]⟩
abbrev S1024x1536 : Shape := ⟨2, ![1024, 1536]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x1536 : Shape := ⟨2, ![65536, 1536]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x1536, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x1536, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelQ.lean ====
abbrev S65536x1024 : Shape := ⟨2, ![65536, 1024]⟩
abbrev S1024 : Shape := ⟨1, ![1024]⟩
abbrev S1024x2048 : Shape := ⟨2, ![1024, 2048]⟩
abbrev S1x1024 : Shape := ⟨2, ![1, 1024]⟩
abbrev S65536x2048 : Shape := ⟨2, ![65536, 2048]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S1024x2048, .bf16⟩
  | .hbm, ⟨4, _⟩ => ⟨S1x1024, .f32⟩
  | .hbm, ⟨5, _⟩ => ⟨S65536x2048, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceQIdeal.lean ====
abbrev S65536x1024 : Shape := ⟨2, ![65536, 1024]⟩
abbrev S1024 : Shape := ⟨1, ![1024]⟩
abbrev S1024x2048 : Shape := ⟨2, ![1024, 2048]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2048 : Shape := ⟨2, ![65536, 2048]⟩

abbrev nBuf : Space → Nat
  | .hbm => 24
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2048, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x2048, .f32⟩
  | .hbm, ⟨20, _⟩ => ⟨S_, .f32⟩
  | .hbm, ⟨21, _⟩ => ⟨S65536x2048, .f32⟩
  | .hbm, ⟨22, _⟩ => ⟨S65536x2048, .f32⟩
  | .hbm, ⟨23, _⟩ => ⟨S65536x2048, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelR.lean ====
abbrev S65536x1024 : Shape := ⟨2, ![65536, 1024]⟩
abbrev S1024 : Shape := ⟨1, ![1024]⟩
abbrev S1024x6400 : Shape := ⟨2, ![1024, 6400]⟩
abbrev S1x1024 : Shape := ⟨2, ![1, 1024]⟩
abbrev S65536x6400 : Shape := ⟨2, ![65536, 6400]⟩
abbrev S1024x1024 : Shape := ⟨2, ![1024, 1024]⟩
abbrev S1024x1280 : Shape := ⟨2, ![1024, 1280]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6400, .f32⟩
  | .hbm, ⟨3, _⟩ => ⟨S1024x6400, .bf16⟩
  | .hbm, ⟨4, _⟩ => ⟨S1x1024, .f32⟩
  | .hbm, ⟨5, _⟩ => ⟨S65536x6400, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1024x1280, .bf16⟩
  | .local _ .vmem, ⟨5, _⟩ => ⟨S1024x1280, .f32⟩
  | .local _ .vmem, ⟨6, _⟩ => ⟨S1024x1280, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![5, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceRIdeal.lean ====
abbrev S65536x1024 : Shape := ⟨2, ![65536, 1024]⟩
abbrev S1024 : Shape := ⟨1, ![1024]⟩
abbrev S1024x6400 : Shape := ⟨2, ![1024, 6400]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x6400 : Shape := ⟨2, ![65536, 6400]⟩

abbrev nBuf : Space → Nat
  | .hbm => 20
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x6400, .f32⟩
  | .hbm, ⟨3, _⟩ => ⟨S65536x1024, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S65536x1, .f32⟩
  | .hbm, ⟨14, _⟩ => ⟨S65536x1024, .f32⟩
  | .hbm, ⟨15, _⟩ => ⟨S65536x1024, .f32⟩
  | .hbm, ⟨16, _⟩ => ⟨S1x1024, .f32⟩
  | .hbm, ⟨17, _⟩ => ⟨S65536x1024, .f32⟩
  | .hbm, ⟨18, _⟩ => ⟨S65536x1024, .f32⟩
  | .hbm, ⟨19, _⟩ => ⟨S65536x6400, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelOut.lean ====
abbrev S65536x2048 : Shape := ⟨2, ![65536, 2048]⟩
abbrev S2048x1024 : Shape := ⟨2, ![2048, 1024]⟩
abbrev S1024 : Shape := ⟨1, ![1024]⟩
abbrev S65536x1024 : Shape := ⟨2, ![65536, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S65536x2048, .bf16⟩
  | .hbm, ⟨1, _⟩ => ⟨S2048x1024, .f32⟩
  | .hbm, ⟨2, _⟩ => ⟨S1024, .f32⟩
  | .hbm, ⟨3, _⟩ => ⟨S65536x1024, .f32⟩
  | .hbm, ⟨4, _⟩ => ⟨S2048x1024, .bf16⟩
  | .hbm, ⟨5, _⟩ => ⟨S1x1024, .f32⟩
  | .hbm, ⟨6, _⟩ => ⟨S65536x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceOutIdeal.lean ====
abbrev S65536x2048 : Shape := ⟨2, ![65536, 2048]⟩
abbrev S2048x1024 : Shape := ⟨2, ![2048, 1024]⟩
abbrev S1024 : Shape := ⟨1, ![1024]⟩
abbrev S65536x1024 : Shape := ⟨2, ![65536, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S2048x1024, .f32⟩
  | .hbm, ⟨2, _⟩ => ⟨S1024, .f32⟩
  | .hbm, ⟨3, _⟩ => ⟨S65536x1024, .f32⟩
  | .hbm, ⟨4, _⟩ => ⟨S65536x2048, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S65536x1024, .f32⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelCmp.lean ====
abbrev S65536x2048 : Shape := ⟨2, ![65536, 2048]⟩
abbrev S32x512x128 : Shape := ⟨3, ![32, 512, 128]⟩
abbrev S65536x6400 : Shape := ⟨2, ![65536, 6400]⟩
abbrev S512 : Shape := ⟨1, ![512]⟩
abbrev S1x512 : Shape := ⟨2, ![1, 512]⟩
abbrev S_ : Shape := ⟨0, ![]⟩
abbrev S128 : Shape := ⟨1, ![128]⟩
abbrev S128x1 : Shape := ⟨2, ![128, 1]⟩
abbrev S128x512 : Shape := ⟨2, ![128, 512]⟩
abbrev S8x2x8192x128 : Shape := ⟨4, ![8, 2, 8192, 128]⟩
abbrev S8x2x64x8x128 : Shape := ⟨5, ![8, 2, 64, 8, 128]⟩
abbrev S128x1024 : Shape := ⟨2, ![128, 1024]⟩
abbrev S1x512x128 : Shape := ⟨3, ![1, 512, 128]⟩
abbrev S128x128 : Shape := ⟨2, ![128, 128]⟩
abbrev S1x1x128x128 : Shape := ⟨4, ![1, 1, 128, 128]⟩
abbrev S1x1x1x8x128 : Shape := ⟨5, ![1, 1, 1, 8, 128]⟩
abbrev S1024x128 : Shape := ⟨2, ![1024, 128]⟩
abbrev S512x128 : Shape := ⟨2, ![512, 128]⟩
abbrev S1024x1 : Shape := ⟨2, ![1024, 1]⟩
abbrev S1024x512 : Shape := ⟨2, ![1024, 512]⟩
abbrev S1024 : Shape := ⟨1, ![1024]⟩
abbrev S1x128 : Shape := ⟨2, ![1, 128]⟩
abbrev S8x128 : Shape := ⟨2, ![8, 128]⟩

abbrev nBuf : Space → Nat
  | .hbm => 54
  | .vmem => 17
  | .smem => 0
  | _ => 0

abbrev bufTy : (tb : Table) → Fin (tcTables nBuf tb) → BufTy
  | .hbm, ⟨0, _⟩ => ⟨S65536x2048, .bf16⟩
  | .hbm, ⟨1, _⟩ => ⟨S32x512x128, .bf16⟩
  | .hbm, ⟨2, _⟩ => ⟨S65536x6400, .f32⟩
  | .hbm, ⟨3, _⟩ => ⟨S512, .i32⟩
  | .hbm, ⟨4, _⟩ => ⟨S1x512, .i32⟩
  | .hbm, ⟨5, _⟩ => ⟨S_, .i32⟩
  | .hbm, ⟨6, _⟩ => ⟨S1x512, .i32⟩
  | .hbm, ⟨7, _⟩ => ⟨S1x512, .i32⟩
  | .hbm, ⟨8, _⟩ => ⟨S128, .i32⟩
  | .hbm, ⟨9, _⟩ => ⟨S128x1, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S_, .i32⟩
  | .hbm, ⟨14, _⟩ => ⟨S1x512, .i32⟩
  | .hbm, ⟨15, _⟩ => ⟨S1x512, .i32⟩
  | .hbm, ⟨16, _⟩ => ⟨S_, .i32⟩
  | .hbm, ⟨17, _⟩ => ⟨S128x1, .i32⟩
  | .hbm, ⟨18, _⟩ => ⟨S128x1, .i32⟩
  | .hbm, ⟨19, _⟩ => ⟨S128x512, .i32⟩
  | .hbm, ⟨20, _⟩ => ⟨S128x512, .i32⟩
  | .hbm, ⟨21, _⟩ => ⟨S128x512, .i32⟩
  | .hbm, ⟨22, _⟩ => ⟨S128x512, .i32⟩
  | .hbm, ⟨23, _⟩ => ⟨S128x512, .i32⟩
  | .hbm, ⟨24, _⟩ => ⟨S128x512, .i32⟩
  | .hbm, ⟨25, _⟩ => ⟨S128x512, .i32⟩
  | .hbm, ⟨26, _⟩ => ⟨S_, .i32⟩
  | .hbm, ⟨27, _⟩ => ⟨S128x512, .i32⟩
  | .hbm, ⟨28, _⟩ => ⟨S128x512, .i32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S512, .i32⟩
  | .hbm, ⟨34, _⟩ => ⟨S1x512, .i32⟩
  | .hbm, ⟨35, _⟩ => ⟨S_, .i32⟩
  | .hbm, ⟨36, _⟩ => ⟨S1x512, .i32⟩
  | .hbm, ⟨37, _⟩ => ⟨S1x512, .i1⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i1⟩
  | .hbm, ⟨43, _⟩ => ⟨S128x512, .i1⟩
  | .hbm, ⟨44, _⟩ => ⟨S128x512, .i1⟩
  | .hbm, ⟨45, _⟩ => ⟨S128x512, .i1⟩
  | .hbm, ⟨46, _⟩ => ⟨S_, .i32⟩
  | .hbm, ⟨47, _⟩ => ⟨S_, .f32⟩
  | .hbm, ⟨48, _⟩ => ⟨S128x512, .f32⟩
  | .hbm, ⟨49, _⟩ => ⟨S128x512, .f32⟩
  | .hbm, ⟨50, _⟩ => ⟨S128x512, .bf16⟩
  | .hbm, ⟨51, _⟩ => ⟨S65536x2048, .f32⟩
  | .hbm, ⟨52, _⟩ => ⟨S8x2x8192x128, .bf16⟩
  | .hbm, ⟨53, _⟩ => ⟨S8x2x64x8x128, .f32⟩
  | .local _ .vmem, ⟨0, _⟩ => ⟨S128x1024, .bf16⟩
  | .local _ .vmem, ⟨1, _⟩ => ⟨S128x1024, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S128x1024, .f32⟩
  | .local _ .vmem, ⟨7, _⟩ => ⟨S128x1024, .f32⟩
  | .local _ .vmem, ⟨8, _⟩ => ⟨S128x128, .f32⟩
  | .local _ .vmem, ⟨9, _⟩ => ⟨S128x128, .f32⟩
  | .local _ .vmem, ⟨10, _⟩ => ⟨S128x512, .bf16⟩
  | .local _ .vmem, ⟨11, _⟩ => ⟨S128x1024, .f32⟩
  | .local _ .vmem, ⟨12, _⟩ => ⟨S128x1024, .f32⟩
  | .local _ .vmem, ⟨13, _⟩ => ⟨S1x1x128x128, .bf16⟩
  | .local _ .vmem, ⟨14, _⟩ => ⟨S1x1x128x128, .bf16⟩
  | .local _ .vmem, ⟨15, _⟩ => ⟨S1x1x1x8x128, .f32⟩
  | .local _ .vmem, ⟨16, _⟩ => ⟨S1x1x1x8x128, .f32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_v35 : Ref sig .tc := ⟨.hbm, 49, rfl⟩
abbrev main_v36 : Ref sig .tc := ⟨.hbm, 50, rfl⟩
abbrev main_v37_0 : Ref sig .tc := ⟨.hbm, 51, rfl⟩
abbrev main_v37_1 : Ref sig .tc := ⟨.hbm, 52, rfl⟩
abbrev main_v37_2 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 2, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c16_i32 : BitVec 32 := 16#32
  let v1 : BitVec 32 := Scalar.addi c16_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceCmpIdeal.lean ====
abbrev S65536x2048 : Shape := ⟨2, ![65536, 2048]⟩
abbrev S32x512x128 : Shape := ⟨3, ![32, 512, 128]⟩
abbrev S65536x6400 : Shape := ⟨2, ![65536, 6400]⟩
abbrev S8x8192x2x8x128 : Shape := ⟨5, ![8, 8192, 2, 8, 128]⟩
abbrev S2x8x2x512x128 : Shape := ⟨5, ![2, 8, 2, 512, 128]⟩
abbrev S2x8x2x511x128 : Shape := ⟨5, ![2, 8, 2, 511, 128]⟩
abbrev S1x8x2x511x128 : Shape := ⟨5, ![1, 8, 2, 511, 128]⟩
abbrev S8x2x511x128 : Shape := ⟨4, ![8, 2, 511, 128]⟩
abbrev S_ : Shape := ⟨0, ![]⟩
abbrev S65536x256 : Shape := ⟨2, ![65536, 256]⟩
abbrev S8x8192x2x128 : Shape := ⟨4, ![8, 8192, 2, 128]⟩
abbrev S8x8192x2x8 : Shape := ⟨4, ![8, 8192, 2, 8]⟩
abbrev S16 : Shape := ⟨1, ![16]⟩
abbrev S2x8 : Shape := ⟨2, ![2, 8]⟩
abbrev S8192 : Shape := ⟨1, ![8192]⟩
abbrev S511 : Shape := ⟨1, ![511]⟩
abbrev S8x2x511x8192x8 : Shape := ⟨5, ![8, 2, 511, 8192, 8]⟩
abbrev S8x8192x2x8x511 : Shape := ⟨5, ![8, 8192, 2, 8, 511]⟩
abbrev S2x8x1 : Shape := ⟨3, ![2, 8, 1]⟩
abbrev S8192x1 : Shape := ⟨2, ![8192, 1]⟩
abbrev S1x511 : Shape := ⟨2, ![1, 511]⟩
abbrev S8192x511 : Shape := ⟨2, ![8192, 511]⟩
abbrev S8192x1x1x511 : Shape := ⟨4, ![8192, 1, 1, 511]⟩
abbrev S1x2x8x1 : Shape := ⟨4, ![1, 2, 8, 1]⟩
abbrev S8192x2x8x511 : Shape := ⟨4, ![8192, 2, 8, 511]⟩
abbrev S1x8192x2x8x511 : Shape := ⟨5, ![1, 8192, 2, 8, 511]⟩
abbrev S8x8192x2x8x1 : Shape := ⟨5, ![8, 8192, 2, 8, 1]⟩
abbrev S8x2x128x8192x8 : Shape := ⟨5, ![8, 2, 128, 8192, 8]⟩

abbrev nBuf : Space → Nat
  | .hbm => 121
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S32x512x128, .bf16⟩
  | .hbm, ⟨2, _⟩ => ⟨S65536x6400, .f32⟩
  | .hbm, ⟨3, _⟩ => ⟨S65536x2048, .f32⟩
  | .hbm, ⟨4, _⟩ => ⟨S8x8192x2x8x128, .f32⟩
  | .hbm, ⟨5, _⟩ => ⟨S32x512x128, .f32⟩
  | .hbm, ⟨6, _⟩ => ⟨S2x8x2x512x128, .f32⟩
  | .hbm, ⟨7, _⟩ => ⟨S2x8x2x511x128, .f32⟩
  | .hbm, ⟨8, _⟩ => ⟨S1x8x2x511x128, .f32⟩
  | .hbm, ⟨9, _⟩ => ⟨S8x2x511x128, .f32⟩
  | .hbm, ⟨10, _⟩ => ⟨S1x8x2x511x128, .f32⟩
  | .hbm, ⟨11, _⟩ => ⟨S8x2x511x128, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S_, .f32⟩
  | .hbm, ⟨16, _⟩ => ⟨S65536x2048, .f32⟩
  | .hbm, ⟨17, _⟩ => ⟨S65536x2048, .f32⟩
  | .hbm, ⟨18, _⟩ => ⟨S_, .f32⟩
  | .hbm, ⟨19, _⟩ => ⟨S65536x2048, .f32⟩
  | .hbm, ⟨20, _⟩ => ⟨S65536x2048, .f32⟩
  | .hbm, ⟨21, _⟩ => ⟨S65536x2048, .f32⟩
  | .hbm, ⟨22, _⟩ => ⟨S8x8192x2x8x128, .f32⟩
  | .hbm, ⟨23, _⟩ => ⟨S65536x256, .f32⟩
  | .hbm, ⟨24, _⟩ => ⟨S8x8192x2x128, .f32⟩
  | .hbm, ⟨25, _⟩ => ⟨S8x8192x2x8, .f32⟩
  | .hbm, ⟨26, _⟩ => ⟨S8x8192x2x8, .f32⟩
  | .hbm, ⟨27, _⟩ => ⟨S8x8192x2x8, .f32⟩
  | .hbm, ⟨28, _⟩ => ⟨S_, .f32⟩
  | .hbm, ⟨29, _⟩ => ⟨S8x8192x2x8, .f32⟩
  | .hbm, ⟨30, _⟩ => ⟨S8x8192x2x8, .f32⟩
  | .hbm, ⟨31, _⟩ => ⟨S_, .f32⟩
  | .hbm, ⟨32, _⟩ => ⟨S8x8192x2x8, .f32⟩
  | .hbm, ⟨33, _⟩ => ⟨S8x8192x2x8, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S2x8, .f32⟩
  | .hbm, ⟨48, _⟩ => ⟨S8192, .i32⟩
  | .hbm, ⟨49, _⟩ => ⟨S8192, .f32⟩
  | .hbm, ⟨50, _⟩ => ⟨S511, .i32⟩
  | .hbm, ⟨51, _⟩ => ⟨S_, .i32⟩
  | .hbm, ⟨52, _⟩ => ⟨S511, .i32⟩
  | .hbm, ⟨53, _⟩ => ⟨S511, .i32⟩
  | .hbm, ⟨54, _⟩ => ⟨S_, .i32⟩
  | .hbm, ⟨55, _⟩ => ⟨S511, .i32⟩
  | .hbm, ⟨56, _⟩ => ⟨S511, .i32⟩
  | .hbm, ⟨57, _⟩ => ⟨S_, .i32⟩
  | .hbm, ⟨58, _⟩ => ⟨S511, .i32⟩
  | .hbm, ⟨59, _⟩ => ⟨S511, .i32⟩
  | .hbm, ⟨60, _⟩ => ⟨S_, .i32⟩
  | .hbm, ⟨61, _⟩ => ⟨S511, .i32⟩
  | .hbm, ⟨62, _⟩ => ⟨S511, .i32⟩
  | .hbm, ⟨63, _⟩ => ⟨S511, .f32⟩
  | .hbm, ⟨64, _⟩ => ⟨S_, .f32⟩
  | .hbm, ⟨65, _⟩ => ⟨S511, .f32⟩
  | .hbm, ⟨66, _⟩ => ⟨S511, .f32⟩
  | .hbm, ⟨67, _⟩ => ⟨S8x2x511x8192x8, .f32⟩
  | .hbm, ⟨68, _⟩ => ⟨S8x8192x2x8x511, .f32⟩
  | .hbm, ⟨69, _⟩ => ⟨S2x8x1, .f32⟩
  | .hbm, ⟨70, _⟩ => ⟨S8192x1, .f32⟩
  | .hbm, ⟨71, _⟩ => ⟨S1x511, .f32⟩
  | .hbm, ⟨72, _⟩ => ⟨S8192x511, .f32⟩
  | .hbm, ⟨73, _⟩ => ⟨S8192x511, .f32⟩
  | .hbm, ⟨74, _⟩ => ⟨S8192x511, .f32⟩
  | .hbm, ⟨75, _⟩ => ⟨S8192x1x1x511, .f32⟩
  | .hbm, ⟨76, _⟩ => ⟨S1x2x8x1, .f32⟩
  | .hbm, ⟨77, _⟩ => ⟨S8192x2x8x511, .f32⟩
  | .hbm, ⟨78, _⟩ => ⟨S8192x2x8x511, .f32⟩
  | .hbm, ⟨79, _⟩ => ⟨S8192x2x8x511, .f32⟩
  | .hbm, ⟨80, _⟩ => ⟨S1x8192x2x8x511, .f32⟩
  | .hbm, ⟨81, _⟩ => ⟨S8x8192x2x8x511, .f32⟩
  | .hbm, ⟨82, _⟩ => ⟨S8x8192x2x8x511, .f32⟩
  | .hbm, ⟨83, _⟩ => ⟨S1x511, .i32⟩
  | .hbm, ⟨84, _⟩ => ⟨S8192x1, .i32⟩
  | .hbm, ⟨85, _⟩ => ⟨S8192x511, .i32⟩
  | .hbm, ⟨86, _⟩ => ⟨S8192x511, .i32⟩
  | .hbm, ⟨87, _⟩ => ⟨S8192x511, .i1⟩
  | .hbm, ⟨88, _⟩ => ⟨S8192x1x1x511, .i1⟩
  | .hbm, ⟨89, _⟩ => ⟨S8x8192x2x8x511, .i1⟩
  | .hbm, ⟨90, _⟩ => ⟨S_, .f32⟩
  | .hbm, ⟨91, _⟩ => ⟨S8x8192x2x8x511, .f32⟩
  | .hbm, ⟨92, _⟩ => ⟨S8x8192x2x8x511, .f32⟩
  | .hbm, ⟨93, _⟩ => ⟨S_, .f32⟩
  | .hbm, ⟨94, _⟩ => ⟨S8x8192x2x8, .f32⟩
  | .hbm, ⟨95, _⟩ => ⟨S8x8192x2x8x1, .f32⟩
  | .hbm, ⟨96, _⟩ => ⟨S8x8192x2x8x1, .f32⟩
  | .hbm, ⟨97, _⟩ => ⟨S_, .f32⟩
  | .hbm, ⟨98, _⟩ => ⟨S8x8192x2x8x1, .f32⟩
  | .hbm, ⟨99, _⟩ => ⟨S8x8192x2x8x1, .i1⟩
  | .hbm, ⟨100, _⟩ => ⟨S_, .f32⟩
  | .hbm, ⟨101, _⟩ => ⟨S8x8192x2x8x1, .f32⟩
  | .hbm, ⟨102, _⟩ => ⟨S8x8192x2x8x1, .f32⟩
  | .hbm, ⟨103, _⟩ => ⟨S8x8192x2x8x511, .f32⟩
  | .hbm, ⟨104, _⟩ => ⟨S8x8192x2x8x511, .f32⟩
  | .hbm, ⟨105, _⟩ => ⟨S8x8192x2x8x511, .f32⟩
  | .hbm, ⟨106, _⟩ => ⟨S_, .f32⟩
  | .hbm, ⟨107, _⟩ => ⟨S8x8192x2x8, .f32⟩
  | .hbm, ⟨108, _⟩ => ⟨S8x8192x2x8x1, .f32⟩
  | .hbm, ⟨109, _⟩ => ⟨S_, .f32⟩
  | .hbm, ⟨110, _⟩ => ⟨S8x8192x2x8x1, .f32⟩
  | .hbm, ⟨111, _⟩ => ⟨S8x8192x2x8x1, .f32⟩
  | .hbm, ⟨112, _⟩ => ⟨S8x8192x2x8x511, .f32⟩
  | .hbm, ⟨113, _⟩ => ⟨S8x8192x2x8x511, .f32⟩
  | .hbm, ⟨114, _⟩ => ⟨S8x2x128x8192x8, .f32⟩
  | .hbm, ⟨115, _⟩ => ⟨S8x8192x2x8x128, .f32⟩
  | .hbm, ⟨116, _⟩ => ⟨S8x8192x2x8x1, .f32⟩
  | .hbm, ⟨117, _⟩ => ⟨S8x8192x2x8x128, .f32⟩
  | .hbm, ⟨118, _⟩ => ⟨S8x8192x2x8x128, .f32⟩
  | .hbm, ⟨119, _⟩ => ⟨S8x8192x2x8x128, .f32⟩
  | .hbm, ⟨120, _⟩ => ⟨S65536x2048, .f32⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_v41 : Ref sig .tc := ⟨.hbm, 53, rfl⟩
abbrev main_c_7 : Ref sig .tc := ⟨.hbm, 54, rfl⟩
abbrev main_v42 : Ref sig .tc := ⟨.hbm, 55, rfl⟩
abbrev main_v43 : Ref sig .tc := ⟨.hbm, 56, rfl⟩
abbrev main_c_8 : Ref sig .tc := ⟨.hbm, 57, rfl⟩
abbrev main_v44 : Ref sig .tc := ⟨.hbm, 58, rfl⟩
abbrev main_v45 : Ref sig .tc := ⟨.hbm, 59, rfl⟩
abbrev main_c_9 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_11 : Ref sig .tc := ⟨.hbm, 90, rfl⟩
abbrev main_v74 : Ref sig .tc := ⟨.hbm, 91, rfl⟩
abbrev main_v75 : Ref sig .tc := ⟨.hbm, 92, rfl⟩
abbrev main_cst_12 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_13 : Ref sig .tc := ⟨.hbm, 97, rfl⟩
abbrev main_v79 : Ref sig .tc := ⟨.hbm, 98, rfl⟩
abbrev main_v80 : Ref sig .tc := ⟨.hbm, 99, rfl⟩
abbrev main_cst_14 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_cst_15 : Ref sig .tc := ⟨.hbm, 106, rfl⟩
abbrev main_v86 : Ref sig .tc := ⟨.hbm, 107, rfl⟩
abbrev main_v87 : Ref sig .tc := ⟨.hbm, 108, rfl⟩
abbrev main_cst_16 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩

abbrev nD : Nat := 1
abbrev τ : Topo := Topo.v7x

variable {F : FTy → Type} [FloatOps F]
-- ==== Kernel.lean ====
abbrev S65536x2048 : Shape := ⟨2, ![65536, 2048]⟩
abbrev S65536x6144 : Shape := ⟨2, ![65536, 6144]⟩
abbrev S65536x128 : Shape := ⟨2, ![65536, 128]⟩
abbrev S1x2048 : Shape := ⟨2, ![1, 2048]⟩
abbrev S256x2048 : Shape := ⟨2, ![256, 2048]⟩
abbrev S256x128 : Shape := ⟨2, ![256, 128]⟩
abbrev S4x512x512 : Shape := ⟨3, ![4, 512, 512]⟩
abbrev S8x512 : Shape := ⟨2, ![8, 512]⟩
abbrev S8x128 : Shape := ⟨2, ![8, 128]⟩
abbrev S256x256 : Shape := ⟨2, ![256, 256]⟩
abbrev S128x256 : Shape := ⟨2, ![128, 256]⟩
abbrev S256x512 : Shape := ⟨2, ![256, 512]⟩
abbrev S1x256 : Shape := ⟨2, ![1, 256]⟩
abbrev S256x1 : Shape := ⟨2, ![256, 1]⟩
abbrev S1x1 : Shape := ⟨2, ![1, 1]⟩
abbrev S256 : Shape := ⟨1, ![256]⟩
abbrev S1x512x512 : Shape := ⟨3, ![1, 512, 512]⟩
abbrev S512x512 : Shape := ⟨2, ![512, 512]⟩
abbrev S1x512 : Shape := ⟨2, ![1, 512]⟩
abbrev S1 : Shape := ⟨1, ![1]⟩
abbrev S512 : Shape := ⟨1, ![512]⟩
abbrev S1x128 : Shape := ⟨2, ![1, 128]⟩

abbrev nBuf : Space → Nat
  | .hbm => 9
  | .vmem => 21
  | .smem => 0
  | _ => 0

abbrev bufTy : (tb : Table) → Fin (tcTables nBuf tb) → BufTy
  | .hbm, ⟨0, _⟩ => ⟨S65536x2048, .bf16⟩
  | .hbm, ⟨1, _⟩ => ⟨S65536x2048, .bf16⟩
  | .hbm, ⟨2, _⟩ => ⟨S65536x2048, .bf16⟩
  | .hbm, ⟨3, _⟩ => ⟨S65536x2048, .bf16⟩
  | .hbm, ⟨4, _⟩ => ⟨S65536x6144, .f32⟩
  | .hbm, ⟨5, _⟩ => ⟨S65536x128, .f32⟩
  | .hbm, ⟨6, _⟩ => ⟨S1x2048, .f32⟩
  | .hbm, ⟨7, _⟩ => ⟨S1x2048, .f32⟩
  | .hbm, ⟨8, _⟩ => ⟨S65536x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x128, .f32⟩
  | .local _ .vmem, ⟨13, _⟩ => ⟨S256x128, .f32⟩
  | .local _ .vmem, ⟨14, _⟩ => ⟨S1x2048, .f32⟩
  | .local _ .vmem, ⟨15, _⟩ => ⟨S1x2048, .f32⟩
  | .local _ .vmem, ⟨16, _⟩ => ⟨S256x2048, .bf16⟩
  | .local _ .vmem, ⟨17, _⟩ => ⟨S256x2048, .bf16⟩
  | .local _ .vmem, ⟨18, _⟩ => ⟨S4x512x512, .f32⟩
  | .local _ .vmem, ⟨19, _⟩ => ⟨S8x512, .f32⟩
  | .local _ .vmem, ⟨20, _⟩ => ⟨S8x128, .f32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S65536x2048 : Shape := ⟨2, ![65536, 2048]⟩
abbrev S65536x6144 : Shape := ⟨2, ![65536, 6144]⟩
abbrev S65536x128 : Shape := ⟨2, ![65536, 128]⟩
abbrev S1x2048 : Shape := ⟨2, ![1, 2048]⟩
abbrev S8x8192x128 : Shape := ⟨3, ![8, 8192, 128]⟩
abbrev S8x8192x4 : Shape := ⟨3, ![8, 8192, 4]⟩
abbrev S8x8192x4x512 : Shape := ⟨4, ![8, 8192, 4, 512]⟩
abbrev S8x128x64x4x512 : Shape := ⟨5, ![8, 128, 64, 4, 512]⟩
abbrev S128x8x64x4x512 : Shape := ⟨5, ![128, 8, 64, 4, 512]⟩
abbrev S128x8x4x64x512 : Shape := ⟨5, ![128, 8, 4, 64, 512]⟩
abbrev S8x128x64x4 : Shape := ⟨4, ![8, 128, 64, 4]⟩
abbrev S128x8x64x4 : Shape := ⟨4, ![128, 8, 64, 4]⟩
abbrev S128x8x4x64 : Shape := ⟨4, ![128, 8, 4, 64]⟩
abbrev S_ : Shape := ⟨0, ![]⟩
abbrev S64x64 : Shape := ⟨2, ![64, 64]⟩
abbrev S8x4x512x512 : Shape := ⟨4, ![8, 4, 512, 512]⟩
abbrev S8x4x512 : Shape := ⟨3, ![8, 4, 512]⟩
abbrev S8x4 : Shape := ⟨2, ![8, 4]⟩
abbrev S1x8x4x64x512 : Shape := ⟨5, ![1, 8, 4, 64, 512]⟩
abbrev S8x4x64x512 : Shape := ⟨4, ![8, 4, 64, 512]⟩
abbrev S1x8x4x64 : Shape := ⟨4, ![1, 8, 4, 64]⟩
abbrev S8x4x64 : Shape := ⟨3, ![8, 4, 64]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x4x1 : Shape := ⟨3, ![8, 4, 1]⟩
abbrev S8x4x1x1 : Shape := ⟨4, ![8, 4, 1, 1]⟩
abbrev S8x128x4x64x512 : Shape := ⟨5, ![8, 128, 4, 64, 512]⟩
abbrev S8x8192x4x1 : Shape := ⟨4, ![8, 8192, 4, 1]⟩

abbrev nBuf : Space → Nat
  | .hbm => 252
  | .vmem => 0
  | .smem => 0
  | _ => 0

abbrev hbmTy0_0 (i : Nat) : BufTy := match i % 128 with
  | 0 => ⟨S65536x2048, .bf16⟩
  | 1 => ⟨S65536x2048, .bf16⟩
  | 2 => ⟨S65536x2048, .bf16⟩
  | 3 => ⟨S65536x2048, .bf16⟩
  | 4 => ⟨S65536x6144, .f32⟩
  | 5 => ⟨S65536x128, .f32⟩
  | 6 => ⟨S1x2048, .f32⟩
  | 7 => ⟨S1x2048, .f32⟩
  | 8 => ⟨S8x8192x128, .f32⟩
  | 9 => ⟨S8x8192x4, .f32⟩
  | 10 => ⟨S8x8192x4, .f32⟩
  | 11 => ⟨S8x8192x4x512, .bf16⟩
  | 12 => ⟨S8x8192x4x512, .bf16⟩
  | 13 => ⟨S8x8192x4x512, .bf16⟩
  | 14 => ⟨S8x8192x4x512, .f32⟩
  | 15 => ⟨S8x128x64x4x512, .f32⟩
  | 16 => ⟨S128x8x64x4x512, .f32⟩
  | 17 => ⟨S128x8x4x64x512, .f32⟩
  | 18 => ⟨S8x8192x4x512, .f32⟩
  | 19 => ⟨S8x128x64x4x512, .f32⟩
  | 20 => ⟨S128x8x64x4x512, .f32⟩
  | 21 => ⟨S128x8x4x64x512, .f32⟩
  | 22 => ⟨S8x8192x4x512, .f32⟩
  | 23 => ⟨S8x128x64x4x512, .f32⟩
  | 24 => ⟨S128x8x64x4x512, .f32⟩
  | 25 => ⟨S128x8x4x64x512, .f32⟩
  | 26 => ⟨S8x128x64x4, .f32⟩
  | 27 => ⟨S128x8x64x4, .f32⟩
  | 28 => ⟨S128x8x4x64, .f32⟩
  | 29 => ⟨S8x128x64x4, .f32⟩
  | 30 => ⟨S128x8x64x4, .f32⟩
  | 31 => ⟨S128x8x4x64, .f32⟩
  | 32 => ⟨S128x8x4x64, .f32⟩
  | 33 => ⟨S_, .f32⟩
  | 34 => ⟨S128x8x4x64, .f32⟩
  | 35 => ⟨S128x8x4x64, .f32⟩
  | 36 => ⟨S128x8x4x64, .f32⟩
  | 37 => ⟨S128x8x4x64, .f32⟩
  | 38 => ⟨S128x8x4x64, .i1⟩
  | 39 => ⟨S128x8x4x64, .f32⟩
  | 40 => ⟨S128x8x4x64, .f32⟩
  | 41 => ⟨S128x8x4x64, .f32⟩
  | 42 => ⟨S128x8x4x64, .f32⟩
  | 43 => ⟨S128x8x4x64, .f32⟩
  | 44 => ⟨S128x8x4x64, .f32⟩
  | 45 => ⟨S128x8x4x64, .f32⟩
  | 46 => ⟨S128x8x4x64, .f32⟩
  | 47 => ⟨S128x8x4x64, .f32⟩
  | 48 => ⟨S_, .i1⟩
  | 49 => ⟨S64x64, .i1⟩
  | 50 => ⟨S64x64, .i32⟩
  | 51 => ⟨S_, .i32⟩
  | 52 => ⟨S64x64, .i32⟩
  | 53 => ⟨S64x64, .i32⟩
  | 54 => ⟨S64x64, .i32⟩
  | 55 => ⟨S64x64, .i1⟩
  | 56 => ⟨S_, .i1⟩
  | 57 => ⟨S64x64, .i1⟩
  | 58 => ⟨S64x64, .i1⟩
  | 59 => ⟨S_, .f32⟩
  | 60 => ⟨S8x4x512x512, .f32⟩
  | 61 => ⟨S_, .f32⟩
  | 62 => ⟨S8x4x512, .f32⟩
  | 63 => ⟨S_, .f32⟩
  | 64 => ⟨S8x4, .f32⟩
  | 65 => ⟨S_, .f32⟩
  | 66 => ⟨S128x8x4x64x512, .f32⟩
  | 67 => ⟨S_, .i32⟩
  | 68 => ⟨S128x8x4x64x512, .f32⟩
  | 69 => ⟨S128x8x4x64x512, .f32⟩
  | 70 => ⟨S128x8x4x64x512, .f32⟩
  | 71 => ⟨S128x8x4x64, .f32⟩
  | 72 => ⟨S128x8x4x64, .f32⟩
  | 73 => ⟨S64x64, .i1⟩
  | 74 => ⟨S_, .i32⟩
  | 75 => ⟨S8x4x512x512, .f32⟩
  | 76 => ⟨S8x4x512, .f32⟩
  | 77 => ⟨S8x4, .f32⟩
  | 78 => ⟨S128x8x4x64x512, .f32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S1x8x4x64x512, .f32⟩
  | 86 => ⟨S8x4x64x512, .f32⟩
  | 87 => ⟨S_, .i32⟩
  | 88 => ⟨S_, .i32⟩
  | 89 => ⟨S_, .i32⟩
  | 90 => ⟨S_, .i32⟩
  | 91 => ⟨S1x8x4x64x512, .f32⟩
  | 92 => ⟨S8x4x64x512, .f32⟩
  | 93 => ⟨S_, .i32⟩
  | 94 => ⟨S_, .i32⟩
  | 95 => ⟨S_, .i32⟩
  | 96 => ⟨S_, .i32⟩
  | 97 => ⟨S1x8x4x64x512, .f32⟩
  | 98 => ⟨S8x4x64x512, .f32⟩
  | 99 => ⟨S_, .i32⟩
  | 100 => ⟨S_, .i32⟩
  | 101 => ⟨S_, .i32⟩
  | 102 => ⟨S1x8x4x64, .f32⟩
  | 103 => ⟨S8x4x64, .f32⟩
  | 104 => ⟨S_, .i32⟩
  | 105 => ⟨S_, .i32⟩
  | 106 => ⟨S_, .i32⟩
  | 107 => ⟨S1x8x4x64, .f32⟩
  | 108 => ⟨S8x4x64, .f32⟩
  | 109 => ⟨S_, .f32⟩
  | 110 => ⟨S_, .f32⟩
  | 111 => ⟨S8x4x64, .f32⟩
  | 112 => ⟨S8x4x64x1, .f32⟩
  | 113 => ⟨S8x4x1x64, .f32⟩
  | 114 => ⟨S8x4x64x64, .f32⟩
  | 115 => ⟨S8x4x64x64, .f32⟩
  | 116 => ⟨S8x4x64x64, .f32⟩
  | 117 => ⟨S8x4x1x64, .f32⟩
  | 118 => ⟨S8x4x64x64, .f32⟩
  | 119 => ⟨S8x4x64x64, .f32⟩
  | 120 => ⟨S_, .f32⟩
  | 121 => ⟨S_, .f32⟩
  | 122 => ⟨S8x4x64x64, .i1⟩
  | 123 => ⟨S8x4x64x64, .f32⟩
  | 124 => ⟨S8x4x64x64, .f32⟩
  | 125 => ⟨S8x4x1, .f32⟩
  | 126 => ⟨S8x4x64, .f32⟩
  | 127 => ⟨S8x4x64, .f32⟩
  | _ => ⟨S65536x2048, .bf16⟩

abbrev hbmTy0_1 (i : Nat) : BufTy := match i % 128 with
  | 0 => ⟨S_, .f32⟩
  | 1 => ⟨S8x4x64, .f32⟩
  | 2 => ⟨S8x4x64, .f32⟩
  | 3 => ⟨S8x4x64x1, .f32⟩
  | 4 => ⟨S8x4x64x64, .f32⟩
  | 5 => ⟨S8x4x64x64, .f32⟩
  | 6 => ⟨S8x4x64x64, .f32⟩
  | 7 => ⟨S8x4x64x64, .f32⟩
  | 8 => ⟨S8x4x64x64, .f32⟩
  | 9 => ⟨S8x4x64, .f32⟩
  | 10 => ⟨S8x4x64, .f32⟩
  | 11 => ⟨S8x4x64x1, .f32⟩
  | 12 => ⟨S8x4x64x512, .f32⟩
  | 13 => ⟨S8x4x64x512, .f32⟩
  | 14 => ⟨S8x4x64x512, .f32⟩
  | 15 => ⟨S8x4x64x512, .f32⟩
  | 16 => ⟨S8x4x64x512, .f32⟩
  | 17 => ⟨S8x4x64, .f32⟩
  | 18 => ⟨S8x4x64, .f32⟩
  | 19 => ⟨S_, .f32⟩
  | 20 => ⟨S8x4x64, .f32⟩
  | 21 => ⟨S8x4x64, .f32⟩
  | 22 => ⟨S8x4x64, .f32⟩
  | 23 => ⟨S8x4x64, .f32⟩
  | 24 => ⟨S8x4x64, .f32⟩
  | 25 => ⟨S8x4x64, .f32⟩
  | 26 => ⟨S8x4x64x1, .f32⟩
  | 27 => ⟨S8x4x64x512, .f32⟩
  | 28 => ⟨S8x4x64x512, .f32⟩
  | 29 => ⟨S8x4x1, .f32⟩
  | 30 => ⟨S8x4, .f32⟩
  | 31 => ⟨S8x4x1, .f32⟩
  | 32 => ⟨S8x4x64, .f32⟩
  | 33 => ⟨S8x4x64, .f32⟩
  | 34 => ⟨S8x4x64, .f32⟩
  | 35 => ⟨S8x4, .f32⟩
  | 36 => ⟨S_, .f32⟩
  | 37 => ⟨S8x4, .f32⟩
  | 38 => ⟨S8x4, .f32⟩
  | 39 => ⟨S8x4x1, .f32⟩
  | 40 => ⟨S8x4x64, .f32⟩
  | 41 => ⟨S8x4x64, .f32⟩
  | 42 => ⟨S8x4x64, .f32⟩
  | 43 => ⟨S8x4, .f32⟩
  | 44 => ⟨S8x4, .f32⟩
  | 45 => ⟨S8x4, .f32⟩
  | 46 => ⟨S8x4x1x1, .f32⟩
  | 47 => ⟨S8x4x512x512, .f32⟩
  | 48 => ⟨S8x4x512x512, .f32⟩
  | 49 => ⟨S8x4x64x1, .f32⟩
  | 50 => ⟨S8x4x64x512, .f32⟩
  | 51 => ⟨S8x4x64x512, .f32⟩
  | 52 => ⟨S8x4x512x512, .f32⟩
  | 53 => ⟨S8x4x512x512, .f32⟩
  | 54 => ⟨S8x4x1, .f32⟩
  | 55 => ⟨S8x4x512, .f32⟩
  | 56 => ⟨S8x4x512, .f32⟩
  | 57 => ⟨S8x4x512, .f32⟩
  | 58 => ⟨S8x4x512, .f32⟩
  | 59 => ⟨S1x8x4x64x512, .f32⟩
  | 60 => ⟨S_, .i32⟩
  | 61 => ⟨S_, .i32⟩
  | 62 => ⟨S_, .i32⟩
  | 63 => ⟨S_, .i32⟩
  | 64 => ⟨S128x8x4x64x512, .f32⟩
  | 65 => ⟨S_, .i32⟩
  | 66 => ⟨S_, .i32⟩
  | 67 => ⟨S8x128x4x64x512, .f32⟩
  | 68 => ⟨S8x128x64x4x512, .f32⟩
  | 69 => ⟨S8x8192x4x512, .f32⟩
  | 70 => ⟨S65536x2048, .f32⟩
  | 71 => ⟨S65536x2048, .f32⟩
  | 72 => ⟨S65536x2048, .f32⟩
  | 73 => ⟨S8x8192x4x512, .f32⟩
  | 74 => ⟨S8x8192x4x512, .f32⟩
  | 75 => ⟨S8x8192x4x512, .f32⟩
  | 76 => ⟨S_, .f32⟩
  | 77 => ⟨S8x8192x4x512, .f32⟩
  | 78 => ⟨S8x8192x4x512, .f32⟩
  | 79 => ⟨S_, .f32⟩
  | 80 => ⟨S8x8192x4x512, .f32⟩
  | 81 => ⟨S8x8192x4x512, .f32⟩
  | 82 => ⟨S8x8192x4x512, .f32⟩
  | 83 => ⟨S_, .f32⟩
  | 84 => ⟨S8x8192x4, .f32⟩
  | 85 => ⟨S8x8192x4x1, .f32⟩
  | 86 => ⟨S_, .f32⟩
  | 87 => ⟨S8x8192x4x1, .f32⟩
  | 88 => ⟨S8x8192x4x1, .f32⟩
  | 89 => ⟨S8x8192x4x512, .f32⟩
  | 90 => ⟨S8x8192x4x512, .f32⟩
  | 91 => ⟨S8x8192x4x512, .f32⟩
  | 92 => ⟨S_, .f32⟩
  | 93 => ⟨S8x8192x4, .f32⟩
  | 94 => ⟨S8x8192x4x1, .f32⟩
  | 95 => ⟨S_, .f32⟩
  | 96 => ⟨S8x8192x4x1, .f32⟩
  | 97 => ⟨S8x8192x4x1, .f32⟩
  | 98 => ⟨S8x8192x4x512, .f32⟩
  | 99 => ⟨S8x8192x4x512, .f32⟩
  | 100 => ⟨S_, .f32⟩
  | 101 => ⟨S8x8192x4x1, .f32⟩
  | 102 => ⟨S8x8192x4x1, .f32⟩
  | 103 => ⟨S8x8192x4x1, .f32⟩
  | 104 => ⟨S8x8192x4x512, .f32⟩
  | 105 => ⟨S8x8192x4x512, .f32⟩
  | 106 => ⟨S65536x2048, .f32⟩
  | 107 => ⟨S65536x2048, .f32⟩
  | 108 => ⟨S65536x2048, .f32⟩
  | 109 => ⟨S65536x2048, .f32⟩
  | 110 => ⟨S65536x2048, .f32⟩
  | 111 => ⟨S65536x2048, .f32⟩
  | 112 => ⟨S65536x2048, .f32⟩
  | 113 => ⟨S65536x2048, .f32⟩
  | 114 => ⟨S65536x2048, .f32⟩
  | 115 => ⟨S_, .f32⟩
  | 116 => ⟨S65536x2048, .f32⟩
  | 117 => ⟨S65536x2048, .f32⟩
  | 118 => ⟨S_, .f32⟩
  | 119 => ⟨S65536x2048, .f32⟩
  | 120 => ⟨S65536x2048, .f32⟩
  | 121 => ⟨S65536x2048, .f32⟩
  | 122 => ⟨S65536x2048, .f32⟩
  | 123 => ⟨S65536x2048, .bf16⟩
  | _ => ⟨S65536x2048, .bf16⟩

abbrev hbmTy (i : Nat) : BufTy := match i / 128 with
  | 0 => hbmTy0_0 i
  | 1 => hbmTy0_1 i
  | _ => ⟨S65536x2048, .bf16⟩

abbrev bufTy : (tb : Table) → Fin (tcTables nBuf tb) → BufTy
  | .hbm, ⟨i, _⟩ => hbmTy i
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v24 : Ref sig .tc := ⟨.hbm, 47, rfl⟩
abbrev main_c : Ref sig .tc := ⟨.hbm, 48, rfl⟩
abbrev main_v25 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_0 : Ref sig .tc := ⟨.hbm, 56, rfl⟩
abbrev main_call1_v5 : Ref sig .tc := ⟨.hbm, 57, rfl⟩
abbrev main_v26 : Ref sig .tc := ⟨.hbm, 58, rfl⟩
abbrev main_cst : Ref sig .tc := ⟨.hbm, 59, rfl⟩
abbrev main_v27 : Ref sig .tc := ⟨.hbm, 60, rfl⟩
abbrev main_cst_0 : Ref sig .tc := ⟨.hbm, 61, rfl⟩
abbrev main_v28 : Ref sig .tc := ⟨.hbm, 62, rfl⟩
abbrev main_cst_1 : Ref sig .tc := ⟨.hbm, 63, rfl⟩
abbrev main_v29 : Ref sig .tc := ⟨.hbm, 64, rfl⟩
abbrev main_cst_2 : Ref sig .tc := ⟨.hbm, 65, rfl⟩
abbrev main_v30 : Ref sig .tc := ⟨.hbm, 66, rfl⟩
abbrev main_c_3 : Ref sig .tc := ⟨.hbm, 67, rfl⟩
abbrev main_v31_0 : Ref sig .tc := ⟨.hbm, 68, rfl⟩
abbrev main_v31_1 : Ref sig .tc := ⟨.hbm, 69, rfl⟩
abbrev main_v31_2 : Ref sig .tc := ⟨.hbm, 70, rfl⟩
abbrev main_v31_3 : Ref sig .tc := ⟨.hbm, 71, rfl⟩
abbrev main_v31_4 : Ref sig .tc := ⟨.hbm, 72, rfl⟩
abbrev main_v31_5 : Ref sig .tc := ⟨.hbm, 73, rfl⟩
abbrev main_v31_6 : Ref sig .tc := ⟨.hbm, 74, rfl⟩
abbrev main_v31_7 : Ref sig .tc := ⟨.hbm, 75, rfl⟩
abbrev main_v31_8 : Ref sig .tc := ⟨.hbm, 76, rfl⟩
abbrev main_v31_9 : Ref sig .tc := ⟨.hbm, 77, rfl⟩
abbrev main_v31_10 : Ref sig .tc := ⟨.hbm, 78, rfl⟩
abbrev main_while0c_c_21 : Ref sig .tc := ⟨.hbm, 79, rfl⟩
abbrev main_while0c_v74 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_c_2 : Ref sig .tc := ⟨.hbm, 84, rfl⟩
abbrev main_while0b_call2_v0 : Ref sig .tc := ⟨.hbm, 85, rfl⟩
abbrev main_while0b_v74 : Ref sig .tc := ⟨.hbm, 86, rfl⟩
abbrev main_while0b_call3_c : Ref sig .tc := ⟨.hbm, 87, rfl⟩
abbrev main_while0b_call3_c_0 : Ref sig .tc := ⟨.hbm, 88, rfl⟩
abbrev main_while0b_call3_c_1 : Ref sig .tc := ⟨.hbm, 89, rfl⟩
abbrev main_while0b_call3_c_2 : Ref sig .tc := ⟨.hbm, 90, rfl⟩
abbrev main_while0b_call3_v0 : Ref sig .tc := ⟨.hbm, 91, rfl⟩
abbrev main_while0b_v75 : Ref sig .tc := ⟨.hbm, 92, rfl⟩
abbrev main_while0b_call4_c : Ref sig .tc := ⟨.hbm, 93, rfl⟩
abbrev main_while0b_call4_c_0 : Ref sig .tc := ⟨.hbm, 94, rfl⟩
abbrev main_while0b_call4_c_1 : Ref sig .tc := ⟨.hbm, 95, rfl⟩
abbrev main_while0b_call4_c_2 : Ref sig .tc := ⟨.hbm, 96, rfl⟩
abbrev main_while0b_call4_v0 : Ref sig .tc := ⟨.hbm, 97, rfl⟩
abbrev main_while0b_v76 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_v0 : Ref sig .tc := ⟨.hbm, 102, rfl⟩
abbrev main_while0b_v77 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_call6_v0 : Ref sig .tc := ⟨.hbm, 107, rfl⟩
abbrev main_while0b_v78 : Ref sig .tc := ⟨.hbm, 108, rfl⟩
abbrev main_while0b_call7_call0_cst : Ref sig .tc := ⟨.hbm, 109, rfl⟩
abbrev main_while0b_call7_call0_v0 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_v83 : Ref sig .tc := ⟨.hbm, 115, rfl⟩
abbrev main_while0b_v84 : Ref sig .tc := ⟨.hbm, 116, rfl⟩
abbrev main_while0b_v85 : Ref sig .tc := ⟨.hbm, 117, rfl⟩
abbrev main_while0b_v86 : Ref sig .tc := ⟨.hbm, 118, rfl⟩
abbrev main_while0b_v87 : Ref sig .tc := ⟨.hbm, 119, rfl⟩
abbrev main_while0b_cst_21 : Ref sig .tc := ⟨.hbm, 120, rfl⟩
abbrev main_while0b_call8_v0 : Ref sig .tc := ⟨.hbm, 121, rfl⟩
abbrev main_while0b_call8_v1 : Ref sig .tc := ⟨.hbm, 122, rfl⟩
abbrev main_while0b_call8_v2 : Ref sig .tc := ⟨.hbm, 123, rfl⟩
abbrev main_while0b_v88 : Ref sig .tc := ⟨.hbm, 124, rfl⟩
abbrev main_while0b_v89 : Ref sig .tc := ⟨.hbm, 125, rfl⟩
abbrev main_while0b_v90 : Ref sig .tc := ⟨.hbm, 126, rfl⟩
abbrev main_while0b_v91 : Ref sig .tc := ⟨.hbm, 127, rfl⟩
abbrev main_while0b_cst_22 : Ref sig .tc := ⟨.hbm, 128, rfl⟩
abbrev main_while0b_v92 : Ref sig .tc := ⟨.hbm, 129, rfl⟩
abbrev main_while0b_v93 : Ref sig .tc := ⟨.hbm, 130, rfl⟩
abbrev main_while0b_v94 : Ref sig .tc := ⟨.hbm, 131, rfl⟩
abbrev main_while0b_v95 : Ref sig .tc := ⟨.hbm, 132, rfl⟩
abbrev main_while0b_v96 : Ref sig .tc := ⟨.hbm, 133, rfl⟩
abbrev main_while0b_v97 : Ref sig .tc := ⟨.hbm, 134, rfl⟩
abbrev main_while0b_v98 : Ref sig .tc := ⟨.hbm, 135, rfl⟩
abbrev main_while0b_v99 : Ref sig .tc := ⟨.hbm, 136, rfl⟩
abbrev main_while0b_v100 : Ref sig .tc := ⟨.hbm, 137, rfl⟩
abbrev main_while0b_v101 : Ref sig .tc := ⟨.hbm, 138, rfl⟩
abbrev main_while0b_v102 : Ref sig .tc := ⟨.hbm, 139, rfl⟩
abbrev main_while0b_v103 : Ref sig .tc := ⟨.hbm, 140, rfl⟩
abbrev main_while0b_v104 : Ref sig .tc := ⟨.hbm, 141, rfl⟩
abbrev main_while0b_v105 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_cst_23 : Ref sig .tc := ⟨.hbm, 147, rfl⟩
abbrev main_while0b_v110 : Ref sig .tc := ⟨.hbm, 148, rfl⟩
abbrev main_while0b_v111 : Ref sig .tc := ⟨.hbm, 149, rfl⟩
abbrev main_while0b_v112 : Ref sig .tc := ⟨.hbm, 150, rfl⟩
abbrev main_while0b_v113 : Ref sig .tc := ⟨.hbm, 151, rfl⟩
abbrev main_while0b_v114 : Ref sig .tc := ⟨.hbm, 152, rfl⟩
abbrev main_while0b_v115 : Ref sig .tc := ⟨.hbm, 153, rfl⟩
abbrev main_while0b_v116 : Ref sig .tc := ⟨.hbm, 154, rfl⟩
abbrev main_while0b_v117 : Ref sig .tc := ⟨.hbm, 155, rfl⟩
abbrev main_while0b_v118 : Ref sig .tc := ⟨.hbm, 156, rfl⟩
abbrev main_while0b_v119 : Ref sig .tc := ⟨.hbm, 157, rfl⟩
abbrev main_while0b_v120 : Ref sig .tc := ⟨.hbm, 158, rfl⟩
abbrev main_while0b_v121 : Ref sig .tc := ⟨.hbm, 159, rfl⟩
abbrev main_while0b_v122 : Ref sig .tc := ⟨.hbm, 160, rfl⟩
abbrev main_while0b_v123 : Ref sig .tc := ⟨.hbm, 161, rfl⟩
abbrev main_while0b_v124 : Ref sig .tc := ⟨.hbm, 162, rfl⟩
abbrev main_while0b_v125 : Ref sig .tc := ⟨.hbm, 163, rfl⟩
abbrev main_while0b_cst_24 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_v136 : Ref sig .tc := ⟨.hbm, 175, rfl⟩
abbrev main_while0b_v137 : Ref sig .tc := ⟨.hbm, 176, rfl⟩
abbrev main_while0b_v138 : Ref sig .tc := ⟨.hbm, 177, rfl⟩
abbrev main_while0b_v139 : Ref sig .tc := ⟨.hbm, 178, rfl⟩
abbrev main_while0b_v140 : Ref sig .tc := ⟨.hbm, 179, rfl⟩
abbrev main_while0b_v141 : Ref sig .tc := ⟨.hbm, 180, rfl⟩
abbrev main_while0b_v142 : Ref sig .tc := ⟨.hbm, 181, rfl⟩
abbrev main_while0b_v143 : Ref sig .tc := ⟨.hbm, 182, rfl⟩
abbrev main_while0b_v144 : Ref sig .tc := ⟨.hbm, 183, rfl⟩
abbrev main_while0b_v145 : Ref sig .tc := ⟨.hbm, 184, rfl⟩
abbrev main_while0b_v146 : Ref sig .tc := ⟨.hbm, 185, rfl⟩
abbrev main_while0b_v147 : Ref sig .tc := ⟨.hbm, 186, rfl⟩
abbrev main_while0b_call9_v0 : Ref sig .tc := ⟨.hbm, 187, rfl⟩
abbrev main_while0b_call9_c : Ref sig .tc := ⟨.hbm, 188, rfl⟩
abbrev main_while0b_call9_c_0 : Ref sig .tc := ⟨.hbm, 189, rfl⟩
abbrev main_while0b_call9_c_1 : Ref sig .tc := ⟨.hbm, 190, rfl⟩
abbrev main_while0b_call9_c_2 : Ref sig .tc := ⟨.hbm, 191, rfl⟩
abbrev main_while0b_v148 : Ref sig .tc := ⟨.hbm, 192, rfl⟩
abbrev main_while0b_c_25 : Ref sig .tc := ⟨.hbm, 193, rfl⟩
abbrev main_while0b_v149 : Ref sig .tc := ⟨.hbm, 194, rfl⟩
abbrev main_v32 : Ref sig .tc := ⟨.hbm, 195, rfl⟩
abbrev main_v33 : Ref sig .tc := ⟨.hbm, 196, rfl⟩
abbrev main_v34 : Ref sig .tc := ⟨.hbm, 197, rfl⟩
abbrev main_v35 : Ref sig .tc := ⟨.hbm, 198, rfl⟩
abbrev main_v36 : Ref sig .tc := ⟨.hbm, 199, rfl⟩
abbrev main_v37 : Ref sig .tc := ⟨.hbm, 200, rfl⟩
abbrev main_v38 : Ref sig .tc := ⟨.hbm, 201, rfl⟩
abbrev main_v39 : Ref sig .tc := ⟨.hbm, 202, rfl⟩
abbrev main_v40 : Ref sig .tc := ⟨.hbm, 203, rfl⟩
abbrev main_cst_4 : Ref sig .tc := ⟨.hbm, 204, rfl⟩
abbrev main_v41 : Ref sig .tc := ⟨.hbm, 205, rfl⟩
abbrev main_v42 : Ref sig .tc := ⟨.hbm, 206, rfl⟩
abbrev main_cst_5 : Ref sig .tc := ⟨.hbm, 207, rfl⟩
abbrev main_v43 : Ref sig .tc := ⟨.hbm, 208, rfl⟩
abbrev main_v44 : Ref sig .tc := ⟨.hbm, 209, rfl⟩
abbrev main_v45 : Ref sig .tc := ⟨.hbm, 210, rfl⟩
abbrev main_cst_6 : Ref sig .tc := ⟨.hbm, 211, rfl⟩
abbrev main_v46 : Ref sig .tc := ⟨.hbm, 212, rfl⟩
abbrev main_v47 : Ref sig .tc := ⟨.hbm, 213, rfl⟩
abbrev main_cst_7 : Ref sig .tc := ⟨.hbm, 214, rfl⟩
abbrev main_v48 : Ref sig .tc := ⟨.hbm, 215, rfl⟩
abbrev main_v49 : Ref sig .tc := ⟨.hbm, 216, rfl⟩
abbrev main_v50 : Ref sig .tc := ⟨.hbm, 217, rfl⟩
abbrev main_v51 : Ref sig .tc := ⟨.hbm, 218, rfl⟩
abbrev main_v52 : Ref sig .tc := ⟨.hbm, 219, rfl⟩
abbrev main_cst_8 : Ref sig .tc := ⟨.hbm, 220, rfl⟩
abbrev main_v53 : Ref sig .tc := ⟨.hbm, 221, rfl⟩
abbrev main_v54 : Ref sig .tc := ⟨.hbm, 222, rfl⟩
abbrev main_cst_9 : Ref sig .tc := ⟨.hbm, 223, rfl⟩
abbrev main_v55 : Ref sig .tc := ⟨.hbm, 224, rfl⟩
abbrev main_v56 : Ref sig .tc := ⟨.hbm, 225, rfl⟩
abbrev main_v57 : Ref sig .tc := ⟨.hbm, 226, rfl⟩
abbrev main_v58 : Ref sig .tc := ⟨.hbm, 227, rfl⟩
abbrev main_cst_10 : Ref sig .tc := ⟨.hbm, 228, rfl⟩
abbrev main_v59 : Ref sig .tc := ⟨.hbm, 229, rfl⟩
abbrev main_v60 : Ref sig .tc := ⟨.hbm, 230, rfl⟩
abbrev main_v61 : Ref sig .tc := ⟨.hbm, 231, rfl⟩
abbrev main_v62 : Ref sig .tc := ⟨.hbm, 232, rfl⟩
abbrev main_v63 : Ref sig .tc := ⟨.hbm, 233, rfl⟩
abbrev main_v64 : Ref sig .tc := ⟨.hbm, 234, rfl⟩
abbrev main_v65 : Ref sig .tc := ⟨.hbm, 235, rfl⟩
abbrev main_v66 : Ref sig .tc := ⟨.hbm, 236, rfl⟩
abbrev main_v67 : Ref sig .tc := ⟨.hbm, 237, rfl⟩
abbrev main_v68 : Ref sig .tc := ⟨.hbm, 238, rfl⟩
abbrev main_v69 : Ref sig .tc := ⟨.hbm, 239, rfl⟩
abbrev main_v70 : Ref sig .tc := ⟨.hbm, 240, rfl⟩
abbrev main_call10_v0 : Ref sig .tc := ⟨.hbm, 241, rfl⟩
abbrev main_call10_v1 : Ref sig .tc := ⟨.hbm, 242, rfl⟩
abbrev main_call10_cst : Ref sig .tc := ⟨.hbm, 243, rfl⟩
abbrev main_call10_v2 : Ref sig .tc := ⟨.hbm, 244, rfl⟩
abbrev main_call10_v3 : Ref sig .tc := ⟨.hbm, 245, rfl⟩
abbrev main_call10_cst_0 : Ref sig .tc := ⟨.hbm, 246, rfl⟩
abbrev main_call10_v4 : Ref sig .tc := ⟨.hbm, 247, rfl⟩
abbrev main_call10_v5 : Ref sig .tc := ⟨.hbm, 248, rfl⟩
abbrev main_v71 : Ref sig .tc := ⟨.hbm, 249, rfl⟩
abbrev main_v72 : Ref sig .tc := ⟨.hbm, 250, rfl⟩
abbrev main_v73 : Ref sig .tc := ⟨.hbm, 251, rfl⟩

abbrev nD : Nat := 1
abbrev τ : Topo := Topo.v7x

variable {F : FTy → Type} [FloatOps F]

abbrev main_while0_count : Scf.Loop 32 := ⟨0#32, 128#32, 1#32⟩
-- ==== Proof.RmsNorm.lean ====
module

public import proofs.«01_k».proof.Proof.Gen.ReferenceInIdeal
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.RmsNorm
open Cert.ReferenceInIdeal Cert.ReferenceInIdeal.Gen

/-- The normalised rows: `x * rsqrt (mean (x * x) + eps) * g`. -/
abbrev NORM (X : FVec Ideal S65536x1024 .f32) (G : FVec Ideal S1024 .f32) : FVec Ideal S65536x1024 .f32 :=
  mulf (mulf X (broadcastInDim S65536x1024 ![0, 1] bcast_S65536x1_S65536x1024_0_1
      (Host.rsqrt (addf (Host.divf (broadcastInDim S65536x1 ![0] bcast_S65536_S65536x1_0
            (Host.reduceAdd (mulf X X) (constant S_ .f32 0x00000000#32) reducesTo_S65536x1024_S65536_d1 h_S_))
          (broadcastInDim S65536x1 ![] bcast_S_S65536x1 (constant S_ .f32 0x44800000#32)))
        (broadcastInDim S65536x1 ![] bcast_S_S65536x1 (constant S_ .f32 0x358637BD#32))))))
    (broadcastInDim S65536x1024 ![0, 1] bcast_S1x1024_S65536x1024_0_1
      (broadcastInDim S1x1024 ![1] bcast_S1024_S1x1024_1 G))

end Cert.RmsNorm

end
-- ==== Proof.ProjIn.lean ====
module

public import proofs.«01_k».proof.Defs
public import proofs.«01_k».proof.Proof.Gen.KernelInIdeal
public import proofs.«01_k».proof.Proof.Gen.KernelInIdeal.Frame
public import proofs.«01_k».proof.Proof.Gen.ReferenceInIdeal
public import proofs.«01_k».proof.Proof.RmsNorm
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! The input projection of the mLSTM layers: RMS norm of each row, then the product with the weights. -/

namespace Cert.KernelInIdeal.Value
open Cert.KernelInIdeal Cert.KernelInIdeal.Gen
variable (m : (ℓ : Loc nD τ sig) → Buf (Elt Ideal) ℓ)

/-- What the reference leaves: the normalised rows times the weights. -/
abbrev REF (X : FVec Ideal S65536x1024 .f32) (G : FVec Ideal S1024 .f32) (W : FVec Ideal S1024x6144 .f32) :
    FVec Ideal S65536x6144 .f32 :=
  Host.dotGeneral Cert.ReferenceInIdeal.dot_S65536x1024_S1024x6144_S65536x6144_1_0_0_1_n_n none (Cert.RmsNorm.NORM X G) W

/-- The blocks of the four windows, at every grid point. -/
theorem idx : ∀ t : Fin cfg0.N, win0_0.index t = ![t.val % 64, 0] ∧ win0_1.index t = ![0, 0]
    ∧ win0_2.index t = ![0, t.val / 64] ∧ win0_3.index t = ![t.val % 64, t.val / 64] :=
  (by decide +kernel : ∀ t : Fin grid0.N, _)

/-- What a grid point stores is the reference's term at the place the block has in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The array the kernel leaves is the reference's term over its arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The kernel and the reference of the input projection leave the same array. -/
theorem algebraic : Cert.algebraic_KernelInIdeal_ReferenceInIdeal := by
  pair_intro
  · run_from Cert.KernelInIdeal.Gen.run_main m g
  · hlo_run
    exact (Cert.KernelInIdeal.Value.final m c).symm

/-- The reference alone: it ends, nothing faults, its arguments are unchanged. -/
theorem refFrame : Cert.quiescent_ReferenceInIdeal := by
  intro m g _
  hlo_run
  · intro c; exact ⟨trivial, trivial, trivial⟩
  · exact sem_eq_zero_of_no_sems rfl _

end Cert.KernelInIdeal.Value

end
-- ==== Proof.ProjKv.lean ====
module

public import proofs.«01_k».proof.Defs
public import proofs.«01_k».proof.Proof.Gen.KernelKvIdeal
public import proofs.«01_k».proof.Proof.Gen.KernelKvIdeal.Frame
public import proofs.«01_k».proof.Proof.Gen.ReferenceKvIdeal
public import proofs.«01_k».proof.Proof.RmsNorm
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! The projection to the shared keys and values: RMS norm of each row, then the product with the weights. -/

namespace Cert.KernelKvIdeal.Value
open Cert.KernelKvIdeal Cert.KernelKvIdeal.Gen
variable (m : (ℓ : Loc nD τ sig) → Buf (Elt Ideal) ℓ)

/-- What the reference leaves: the normalised rows times the weights. -/
abbrev REF (X : FVec Ideal S65536x1024 .f32) (G : FVec Ideal S1024 .f32) (W : FVec Ideal S1024x1536 .f32) :
    FVec Ideal S65536x1536 .f32 :=
  Host.dotGeneral Cert.ReferenceKvIdeal.dot_S65536x1024_S1024x1536_S65536x1536_1_0_0_1_n_n none (Cert.RmsNorm.NORM X G) W

/-- The blocks of the four windows, at every grid point. -/
theorem idx : ∀ t : Fin cfg0.N, win0_0.index t = ![t.val % 64, 0] ∧ win0_1.index t = ![0, 0]
    ∧ win0_2.index t = ![0, t.val / 64] ∧ win0_3.index t = ![t.val % 64, t.val / 64] :=
  (by decide +kernel : ∀ t : Fin grid0.N, _)

/-- What a grid point stores is the reference's term at the place the block has in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The array the kernel leaves is the reference's term over its arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The kernel and the reference of the projection to keys and values leave the same array. -/
theorem algebraic : Cert.algebraic_KernelKvIdeal_ReferenceKvIdeal := by
  pair_intro
  · run_from Cert.KernelKvIdeal.Gen.run_main m g
  · hlo_run
    exact (Cert.KernelKvIdeal.Value.final m c).symm

/-- The reference alone: it ends, nothing faults, its arguments are unchanged. -/
theorem refFrame : Cert.quiescent_ReferenceKvIdeal := by
  intro m g _
  hlo_run
  · intro c; exact ⟨trivial, trivial, trivial⟩
  · exact sem_eq_zero_of_no_sems rfl _

end Cert.KernelKvIdeal.Value

end
-- ==== Proof.ProjQ.lean ====
module

public import proofs.«01_k».proof.Defs
public import proofs.«01_k».proof.Proof.Gen.KernelQIdeal
public import proofs.«01_k».proof.Proof.Gen.KernelQIdeal.Frame
public import proofs.«01_k».proof.Proof.Gen.ReferenceQIdeal
public import proofs.«01_k».proof.Proof.RmsNorm
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! The projection to the attention's queries: RMS norm of each row, then the product with the weights. -/

namespace Cert.KernelQIdeal.Value
open Cert.KernelQIdeal Cert.KernelQIdeal.Gen
variable (m : (ℓ : Loc nD τ sig) → Buf (Elt Ideal) ℓ)

/-- What the reference leaves: the normalised rows times the weights, scaled and cast. -/
abbrev REF (X : FVec Ideal S65536x1024 .f32) (G : FVec Ideal S1024 .f32) (W : FVec Ideal S1024x2048 .f32) :
    FVec Ideal S65536x2048 .bf16 :=
  truncf .bf16 (mulf (Host.dotGeneral Cert.ReferenceQIdeal.dot_S65536x1024_S1024x2048_S65536x2048_1_0_0_1_n_n none (Cert.RmsNorm.NORM X G) W)
    (broadcastInDim Cert.ReferenceQIdeal.S65536x2048 ![] Cert.ReferenceQIdeal.Gen.bcast_S_S65536x2048 (constant Cert.ReferenceQIdeal.S_ .f32 0x3DB504F3#32)))
    Cert.ReferenceQIdeal.Gen.bitsLt_bf16_f32

/-- The blocks of the four windows, at every grid point. -/
theorem idx : ∀ t : Fin cfg0.N, win0_0.index t = ![t.val % 64, 0] ∧ win0_1.index t = ![0, 0]
    ∧ win0_2.index t = ![0, t.val / 64] ∧ win0_3.index t = ![t.val % 64, t.val / 64] :=
  (by decide +kernel : ∀ t : Fin grid0.N, _)

/-- What a grid point stores is the reference's term at the place the block has in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The array the kernel leaves is the reference's term over its arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The kernel and the reference of the projection to queries leave the same array. -/
theorem algebraic : Cert.algebraic_KernelQIdeal_ReferenceQIdeal := by
  pair_intro
  · run_from Cert.KernelQIdeal.Gen.run_main m g
  · hlo_run
    exact (Cert.KernelQIdeal.Value.final m c).symm

/-- The reference alone: it ends, nothing faults, its arguments are unchanged. -/
theorem refFrame : Cert.quiescent_ReferenceQIdeal := by
  intro m g _
  hlo_run
  · intro c; exact ⟨trivial, trivial, trivial⟩
  · exact sem_eq_zero_of_no_sems rfl _

end Cert.KernelQIdeal.Value

end
-- ==== Proof.ProjR.lean ====
module

public import proofs.«01_k».proof.Defs
public import proofs.«01_k».proof.Proof.Gen.KernelRIdeal
public import proofs.«01_k».proof.Proof.Gen.KernelRIdeal.Frame
public import proofs.«01_k».proof.Proof.Gen.ReferenceRIdeal
public import proofs.«01_k».proof.Proof.RmsNorm
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! The projection to the attention's gates: RMS norm of each row, then the product with the weights. -/

namespace Cert.KernelRIdeal.Value
open Cert.KernelRIdeal Cert.KernelRIdeal.Gen
variable (m : (ℓ : Loc nD τ sig) → Buf (Elt Ideal) ℓ)

/-- What the reference leaves: the normalised rows times the weights. -/
abbrev REF (X : FVec Ideal S65536x1024 .f32) (G : FVec Ideal S1024 .f32) (W : FVec Ideal S1024x6400 .f32) :
    FVec Ideal S65536x6400 .f32 :=
  Host.dotGeneral Cert.ReferenceRIdeal.dot_S65536x1024_S1024x6400_S65536x6400_1_0_0_1_n_n none (Cert.RmsNorm.NORM X G) W

/-- The blocks of the four windows, at every grid point. -/
theorem idx : ∀ t : Fin cfg0.N, win0_0.index t = ![t.val % 64, 0] ∧ win0_1.index t = ![0, 0]
    ∧ win0_2.index t = ![0, t.val / 64] ∧ win0_3.index t = ![t.val % 64, t.val / 64] :=
  (by decide +kernel : ∀ t : Fin grid0.N, _)

/-- What a grid point stores is the reference's term at the place the block has in the array. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF]
  blk_point [iblk, V, idx t]

/-- The array the kernel leaves is the reference's term over its arguments. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

/-- The kernel and the reference of the projection to gates leave the same array. -/
theorem algebraic : Cert.algebraic_KernelRIdeal_ReferenceRIdeal := by
  pair_intro
  · run_from Cert.KernelRIdeal.Gen.run_main m g
  · hlo_run
    exact (Cert.KernelRIdeal.Value.final m c).symm

/-- The reference alone: it ends, nothing faults, its arguments are unchanged. -/
theorem refFrame : Cert.quiescent_ReferenceRIdeal := by
  intro m g _
  hlo_run
  · intro c; exact ⟨trivial, trivial, trivial⟩
  · exact sem_eq_zero_of_no_sems rfl _

end Cert.KernelRIdeal.Value

end
-- ==== Proof.ProjOut.lean ====
module

public import proofs.«01_k».proof.Defs
public import proofs.«01_k».proof.Proof.Gen.KernelOutIdeal
public import proofs.«01_k».proof.Proof.Gen.KernelOutIdeal.Frame
public import proofs.«01_k».proof.Proof.Gen.ReferenceOutIdeal
public import proofs.«01_k».proof.Proof.RmsNorm
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

/-! The output projection of a layer: the product with the weights, its RMS norm, the residual. -/

namespace Cert.KernelOutIdeal.Value
open Cert.KernelOutIdeal Cert.KernelOutIdeal.Gen
variable (m : (ℓ : Loc nD τ sig) → Buf (Elt Ideal) ℓ)

/-- What the reference leaves: the residual plus the RMS norm of the product. -/
abbrev REF (Y : FVec Ideal S65536x2048 .bf16) (W : FVec Ideal S2048x1024 .f32) (G : FVec Ideal S1024 .f32)
    (X : FVec Ideal S65536x1024 .f32) : FVec Ideal S65536x1024 .f32 :=
  addf X (Cert.RmsNorm.NORM (Host.dotGeneral Cert.ReferenceOutIdeal.dot_S65536x2048_S2048x1024_S65536x1024_1_0_0_1_n_n none
    (extf .f32 Y Cert.ReferenceOutIdeal.Gen.bitsLt_bf16_f32) W) G)

/-- The blocks of the five windows, at every grid point. -/
theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- What a grid point stores is the reference's term at the place the block has in the array. -/
theorem point (c : Dev nD) (t : Fin cfg0.N) (y) : k0_pay1 (iblk m c 0 t) (iblk m c 1 t) (iblk m c 3 t) (iblk m c 2 t) y
    = REF (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay1, REF]
  blk_point [iblk, V, idx t]

/-- The array the kernel leaves is the reference's term over its arguments. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

/-- The kernel and the reference of the output projection leave the same array. -/
theorem algebraic : Cert.algebraic_KernelOutIdeal_ReferenceOutIdeal := by
  pair_intro
  · run_from Cert.KernelOutIdeal.Gen.run_main m g
  · hlo_run
    exact (Cert.KernelOutIdeal.Value.final m c).symm

/-- The reference alone: it ends, nothing faults, its arguments are unchanged. -/
theorem refFrame : Cert.quiescent_ReferenceOutIdeal := by
  intro m g _
  hlo_run
  · intro c; exact ⟨trivial, trivial, trivial, trivial⟩
  · exact sem_eq_zero_of_no_sems rfl _

end Cert.KernelOutIdeal.Value

end
-- ==== Proof.CmpSoftmax.lean ====
module
public import Idealize.ShloMosaic.PureOps.Ideal
public import Idealize.ShloMosaic.Lib.Pipeline.ValueKit

@[expose] public section
noncomputable section

open Idealize.ShloMosaic Finset

/-! A masked softmax over the extended reals, in the kernel's form (one more key, which is masked; the reciprocal of
the sum as a factor) and in the reference's (a maximum that is not finite replaced by zero; a division). -/

namespace Cert.Cmp

/-- The smallest sum of weights a division is made by. -/
def eps : EReal := Ideal.ofBits .f32 0x0DA24260#32

theorem eps_pos : 0 < eps := by
  unfold eps
  simp only [Ideal.ofBits, Ideal.ieee]
  simp
  rw [← EReal.coe_mul]
  exact EReal.coe_pos.2 (by positivity)

/-- The maximum of the scores. -/
def top {n : ℕ} (x : Fin n → EReal) : EReal := (univ : Finset (Fin n)).fold max ⊥ x
/-- What the kernel subtracts: the maximum, or zero where every score is −∞. -/
def kM {n : ℕ} (x : Fin n → EReal) : EReal := if top x = ⊥ then 0 else top x
/-- What the reference subtracts: the maximum, or zero where it is not finite. -/
def rM {n : ℕ} (x : Fin n → EReal) : EReal := if top x = ⊤ ∨ top x = ⊥ then 0 else top x
/-- The weights in the kernel's form. -/
def kP {n : ℕ} (x : Fin n → EReal) (i : Fin n) : EReal :=
  Ideal.exp (x i - kM x) * Ideal.div 1 (max (∑ j, Ideal.exp (x j - kM x)) eps)
/-- The weights in the reference's form. -/
def rP {n : ℕ} (x : Fin n → EReal) (i : Fin n) : EReal :=
  Ideal.div (Ideal.exp (x i - rM x)) (max (∑ j, Ideal.exp (x j - rM x)) eps)

theorem div_pos {x y : EReal} (h : 0 < y) : Ideal.div x y = x * y⁻¹ := by
  unfold Ideal.div; rw [if_neg h.ne']

theorem exp_bot : Ideal.exp ⊥ = 0 := rfl

theorem exp_nonneg (x : EReal) : 0 ≤ Ideal.exp x := by
  induction x using EReal.rec with
  | bot => exact le_rfl
  | coe r => exact EReal.coe_nonneg.2 (Real.exp_pos r).le
  | top => exact le_top

/-- A key more, with score −∞, does not move the maximum. -/
theorem top_succ {n : ℕ} (x : Fin (n + 1) → EReal) (y : Fin n → EReal) (h : ∀ i : Fin n, x i.castSucc = y i) (hl : x (Fin.last n) = ⊥) :
    top x = top y := by
  unfold top
  rw [Fin.univ_castSuccEmb, fold_cons, hl, fold_map, max_eq_right bot_le]
  exact congrArg (fun f => fold max ⊥ f (univ : Finset (Fin n))) (funext h)

theorem exists_top {n : ℕ} (y : Fin n → EReal) (h : top y = ⊤) : ∃ i, y i = ⊤ := by
  unfold top at h
  have h1 : (⊤ : EReal) ≤ (univ : Finset (Fin n)).fold max ⊥ y := h.ge
  rw [le_fold_max] at h1
  rcases h1 with h1 | ⟨i, -, hi⟩
  · exact absurd h1 (by simp)
  · exact ⟨i, top_le_iff.1 hi⟩

theorem bot_sub (a : EReal) : (⊥ : EReal) - a = ⊥ := by rw [sub_eq_add_neg]; exact EReal.bot_add _
theorem sub_top (a : EReal) : a - (⊤ : EReal) = ⊥ := by rw [sub_eq_add_neg, EReal.neg_top]; exact EReal.add_bot _

/-- The kernel's weights are the reference's. -/
theorem kP_eq {n : ℕ} (x : Fin (n + 1) → EReal) (y : Fin n → EReal) (h : ∀ i : Fin n, x i.castSucc = y i) (hl : x (Fin.last n) = ⊥)
    (i : Fin n) : kP x i.castSucc = rP y i := by
  have hD : ∀ a : EReal, 0 < max a eps := fun a => lt_max_of_lt_right eps_pos
  unfold kP rP
  rw [div_pos (hD _), div_pos (hD _), one_mul, h]
  by_cases ht : top y = ⊤
  · have hk : kM x = ⊤ := by unfold kM; rw [top_succ x y h hl, ht]; simp
    have hr : rM y = 0 := by unfold rM; simp [ht]
    rw [hk, sub_top, exp_bot, zero_mul, hr]
    obtain ⟨j, hj⟩ := exists_top y ht
    have hs : (∑ j, Ideal.exp (y j - 0)) = ⊤ := by
      refine top_le_iff.1 (le_trans ?_ (single_le_sum (f := fun j => Ideal.exp (y j - 0)) (fun i _ => exp_nonneg _) (mem_univ j)))
      simp only [hj, sub_zero]; exact le_rfl
    rw [hs, max_eq_left le_top, EReal.inv_top, mul_zero]
  · have hk : kM x = rM y := by
      unfold kM rM; rw [top_succ x y h hl]; simp [ht]
    have hs : (∑ j, Ideal.exp (x j - kM x)) = ∑ j, Ideal.exp (y j - rM y) := by
      rw [Fin.sum_univ_castSucc, hl, bot_sub, exp_bot, add_zero, hk]
      simp only [h]
    rw [hs, hk]

/-- The weighted sums agree. -/
theorem sum_eq {n : ℕ} (x : Fin (n + 1) → EReal) (y : Fin n → EReal) (h : ∀ i : Fin n, x i.castSucc = y i) (hl : x (Fin.last n) = ⊥)
    (v : Fin (n + 1) → EReal) : (∑ i, kP x i * v i) = ∑ i : Fin n, rP y i * v i.castSucc := by
  rw [Fin.sum_univ_castSucc]
  have h0 : kP x (Fin.last n) = 0 := by unfold kP; rw [hl, bot_sub, exp_bot, zero_mul]
  rw [h0, zero_mul, add_zero]
  simp only [kP_eq x y h hl]

end Cert.Cmp
end
-- ==== Proof.CmpRef.lean ====
module
public import proofs.«01_k».proof.Proof.Gen.ReferenceCmpIdeal
public import proofs.«01_k».proof.Proof.CmpSoftmax
public import Idealize.ShloMosaic.Lib.Pipeline.ValueKit

@[expose] public section
noncomputable section
set_option maxRecDepth 16384

namespace Cert.CmpRef
open Cert.ReferenceCmpIdeal Cert.ReferenceCmpIdeal.Gen Idealize.ShloMosaic Idealize.ShloMosaic.TcCoe Idealize.SL.Sem
open Cert.Cmp

/-! What the compressed attention's reference computes, stage by stage, and each stage at an index. -/

section Stages
variable (Q : FVec Ideal S65536x2048 .bf16) (KV : FVec Ideal S32x512x128 .bf16) (R : FVec Ideal S65536x6400 .f32)

/-- The queries by batch, position, group, head. -/
def rQ : FVec Ideal S8x8192x2x8x128 .f32 := shapeCast S8x8192x2x8x128 (extf .f32 Q bitsLt_bf16_f32 : FVec Ideal S65536x2048 .f32) shapeCasts_S65536x2048_S8x8192x2x8x128
/-- The compressed keys and values by batch and group, without the last row. -/
def rKV : FVec Ideal S2x8x2x511x128 .f32 := extractStridedSlice S2x8x2x511x128 ![0, 0, 0, 0, 0]
  (shapeCast S2x8x2x512x128 (extf .f32 KV bitsLt_bf16_f32 : FVec Ideal S32x512x128 .f32) shapeCasts_S32x512x128_S2x8x2x512x128) slices_S2x8x2x512x128_S2x8x2x511x128_0_0_0_0_0
/-- The keys. -/
def rK : FVec Ideal S8x2x511x128 .f32 := shapeCast S8x2x511x128 (extractStridedSlice S1x8x2x511x128 ![0, 0, 0, 0, 0] (rKV KV) slices_S2x8x2x511x128_S1x8x2x511x128_0_0_0_0_0)
  shapeCasts_S1x8x2x511x128_S8x2x511x128
/-- The values. -/
def rV : FVec Ideal S8x2x511x128 .f32 := shapeCast S8x2x511x128 (extractStridedSlice S1x8x2x511x128 ![1, 0, 0, 0, 0] (rKV KV) slices_S2x8x2x511x128_S1x8x2x511x128_1_0_0_0_0)
  shapeCasts_S1x8x2x511x128_S8x2x511x128
/-- The columns the output is gated by. -/
def rZ0 : FVec Ideal S65536x2048 .f32 := extractStridedSlice S65536x2048 ![0, 0] R slices_S65536x6400_S65536x2048_0_0
/-- Their SiLU. -/
def rZ : FVec Ideal S8x8192x2x8x128 .f32 := shapeCast S8x8192x2x8x128
  (mulf (rZ0 R) (Host.divf (broadcastInDim S65536x2048 ![] bcast_S_S65536x2048 (constant S_ .f32 0x3F800000#32))
    (addf (broadcastInDim S65536x2048 ![] bcast_S_S65536x2048 (constant S_ .f32 0x3F800000#32)) (Host.exp (Host.negf (rZ0 R))))))
  shapeCasts_S65536x2048_S8x8192x2x8x128
/-- The branch gates before the sigmoid. -/
def rG0 : FVec Ideal S8x8192x2x8 .f32 := extractStridedSlice S8x8192x2x8 ![0, 0, 0, 0]
  (shapeCast S8x8192x2x128 (extractStridedSlice S65536x256 ![0, 6144] R slices_S65536x6400_S65536x256_0_6144) shapeCasts_S65536x256_S8x8192x2x128) slices_S8x8192x2x128_S8x8192x2x8_0_0_0_0
/-- The branch gates. -/
def rG : FVec Ideal S8x8192x2x8 .f32 := Host.divf (broadcastInDim S8x8192x2x8 ![] bcast_S_S8x8192x2x8 (constant S_ .f32 0x3F800000#32))
  (addf (broadcastInDim S8x8192x2x8 ![] bcast_S_S8x8192x2x8 (constant S_ .f32 0x3F800000#32)) (Host.exp (Host.negf (rG0 R))))
/-- The slope of every head. -/
def rSl : FVec Ideal S2x8 .f32 := shapeCast S2x8 (Host.powf (broadcastInDim S16 ![] bcast_S_S16 (constant S_ .f32 0x40000000#32))
  (Host.divf (mulf (broadcastInDim S16 ![] bcast_S_S16 (constant S_ .f32 0xC1000000#32))
    (addf (broadcastInDim S16 ![] bcast_S_S16 (constant S_ .f32 0x3F800000#32)) (sitofp .f32 (iotaInDim S16 32 0))))
    (broadcastInDim S16 ![] bcast_S_S16 (constant S_ .f32 0x41800000#32)))) shapeCasts_S16_S2x8
/-- The distance of a position to the middle of a key's span. -/
def rD : FVec Ideal S8192x511 .f32 := subf
  (broadcastInDim S8192x511 ![0, 1] bcast_S8192x1_S8192x511_0_1 (broadcastInDim S8192x1 ![0] bcast_S8192_S8192x1_0 (sitofp .f32 (iotaInDim S8192 32 0))))
  (broadcastInDim S8192x511 ![0, 1] bcast_S1x511_S8192x511_0_1 (broadcastInDim S1x511 ![1] bcast_S511_S1x511_1
    (addf (sitofp .f32 (muli (iotaInDim S511 32 0) (broadcastInDim S511 ![] bcast_S_S511 (constantI S_ 32 16#32)))) (broadcastInDim S511 ![] bcast_S_S511 (constant S_ .f32 0x41780000#32)))))
/-- The keys whose span has ended. -/
def rB : IVec S8192x511 1 := cmpi .sle
  (broadcastInDim S8192x511 ![0, 1] bcast_S1x511_S8192x511_0_1 (broadcastInDim S1x511 ![1] bcast_S511_S1x511_1
    (subi (addi (muli (iotaInDim S511 32 0) (broadcastInDim S511 ![] bcast_S_S511 (constantI S_ 32 16#32))) (broadcastInDim S511 ![] bcast_S_S511 (constantI S_ 32 32#32)))
      (broadcastInDim S511 ![] bcast_S_S511 (constantI S_ 32 1#32)))))
  (broadcastInDim S8192x511 ![0, 1] bcast_S8192x1_S8192x511_0_1 (broadcastInDim S8192x1 ![0] bcast_S8192_S8192x1_0 (iotaInDim S8192 32 0)))
/-- The penalty of the distance. -/
def rA : FVec Ideal S8192x2x8x511 .f32 := mulf
  (broadcastInDim S8192x2x8x511 ![0, 1, 2, 3] bcast_S1x2x8x1_S8192x2x8x511_0_1_2_3 (broadcastInDim S1x2x8x1 ![1, 2, 3] bcast_S2x8x1_S1x2x8x1_1_2_3 (broadcastInDim S2x8x1 ![0, 1] bcast_S2x8_S2x8x1_0_1 rSl)))
  (broadcastInDim S8192x2x8x511 ![0, 1, 2, 3] bcast_S8192x1x1x511_S8192x2x8x511_0_1_2_3 (broadcastInDim S8192x1x1x511 ![0, 3] bcast_S8192x511_S8192x1x1x511_0_3 rD))
/-- The scores before the mask. -/
def rS : FVec Ideal S8x8192x2x8x511 .f32 := subf
  (transpose S8x8192x2x8x511 [0, 3, 1, 4, 2] (Host.dotGeneral dot_S8x2x511x128_S8x8192x2x8x128_S8x2x511x8192x8_3_4_2_13_01_02 none (rK KV) (rQ Q) : FVec Ideal S8x2x511x8192x8 .f32)
    transposes_S8x2x511x8192x8_S8x8192x2x8x511_0_3_1_4_2)
  (broadcastInDim S8x8192x2x8x511 ![0, 1, 2, 3, 4] bcast_S1x8192x2x8x511_S8x8192x2x8x511_0_1_2_3_4 (broadcastInDim S1x8192x2x8x511 ![1, 2, 3, 4] bcast_S8192x2x8x511_S1x8192x2x8x511_1_2_3_4 rA))
/-- The masked scores. -/
def rX : FVec Ideal S8x8192x2x8x511 .f32 := select
  (broadcastInDim S8x8192x2x8x511 ![1, 2, 3, 4] bcast_S8192x1x1x511_S8x8192x2x8x511_1_2_3_4 (broadcastInDim S8192x1x1x511 ![0, 3] bcast_S8192x511_S8192x1x1x511_0_3 rB))
  (rS Q KV) (broadcastInDim S8x8192x2x8x511 ![] bcast_S_S8x8192x2x8x511 (constant S_ .f32 0xFF800000#32))
/-- The maxima, by a column. -/
def rT : FVec Ideal S8x8192x2x8x1 .f32 := broadcastInDim S8x8192x2x8x1 ![0, 1, 2, 3] bcast_S8x8192x2x8_S8x8192x2x8x1_0_1_2_3
  (Host.reduce FloatOps.maximumf (rX Q KV) (constant S_ .f32 0xFF800000#32) reducesTo_S8x8192x2x8x511_S8x8192x2x8_d4 h_S_)
/-- What is subtracted. -/
def rMx : FVec Ideal S8x8192x2x8x1 .f32 := select (cmpf .olt (Host.absf (rT Q KV)) (broadcastInDim S8x8192x2x8x1 ![] bcast_S_S8x8192x2x8x1 (constant S_ .f32 0x7F800000#32))) (rT Q KV) (broadcastInDim S8x8192x2x8x1 ![] bcast_S_S8x8192x2x8x1 (constant S_ .f32 0x00000000#32))
/-- The exponentials. -/
def rE : FVec Ideal S8x8192x2x8x511 .f32 := Host.exp (subf (rX Q KV)
  (broadcastInDim S8x8192x2x8x511 ![0, 1, 2, 3, 4] bcast_S8x8192x2x8x1_S8x8192x2x8x511_0_1_2_3_4 (rMx Q KV)))
/-- The weights. -/
def rW : FVec Ideal S8x8192x2x8x511 .f32 := Host.divf (rE Q KV) (broadcastInDim S8x8192x2x8x511 ![0, 1, 2, 3, 4] bcast_S8x8192x2x8x1_S8x8192x2x8x511_0_1_2_3_4
  (maximumf (broadcastInDim S8x8192x2x8x1 ![0, 1, 2, 3] bcast_S8x8192x2x8_S8x8192x2x8x1_0_1_2_3 (Host.reduceAdd (rE Q KV) (constant S_ .f32 0x00000000#32) reducesTo_S8x8192x2x8x511_S8x8192x2x8_d4 h_S_))
    (broadcastInDim S8x8192x2x8x1 ![] bcast_S_S8x8192x2x8x1 (constant S_ .f32 0x0DA24260#32))))
/-- The weighted sums of the values. -/
def rO : FVec Ideal S8x8192x2x8x128 .f32 := transpose S8x8192x2x8x128 [0, 3, 1, 4, 2]
  (Host.dotGeneral dot_S8x2x511x128_S8x8192x2x8x511_S8x2x128x8192x8_2_4_3_13_01_02 none (rV KV) (rW Q KV) : FVec Ideal S8x2x128x8192x8 .f32)
  transposes_S8x2x128x8192x8_S8x8192x2x8x128_0_3_1_4_2
/-- The result. -/
def REF : FVec Ideal S65536x2048 .f32 := shapeCast S65536x2048
  (mulf (mulf (broadcastInDim S8x8192x2x8x128 ![0, 1, 2, 3, 4] bcast_S8x8192x2x8x1_S8x8192x2x8x128_0_1_2_3_4
    (broadcastInDim S8x8192x2x8x1 ![0, 1, 2, 3] bcast_S8x8192x2x8_S8x8192x2x8x1_0_1_2_3 (rG R))) (rZ R)) (rO Q KV)) shapeCasts_S8x8192x2x8x128_S65536x2048
end Stages
end Cert.CmpRef
end
-- ==== Proof.CmpScore.lean ====
module
public import proofs.«01_k».proof.Proof.CmpSoftmax

@[expose] public section
noncomputable section

open Idealize.ShloMosaic Finset

/-! One position's compressed attention as a formula over its row of queries, the keys and the values. -/

namespace Cert.Cmp

/-- A position's score at key `n`: −∞ before the key's span has ended, else the product less the penalty of the distance. -/
def xs (dot sl : EReal) (t n : ℕ) : EReal :=
  if 16 * n + 31 ≤ t then dot - sl * (FloatOps.sitofp (F := Ideal) .f32 (BitVec.ofNat 32 t) -
    (FloatOps.sitofp (F := Ideal) .f32 (BitVec.ofNat 32 (16 * n)) + Ideal.ofBits .f32 1098383360#32)) else ⊥

/-- A head's slope, in the kernel's form. -/
def slopeK (h : ℕ) : EReal := Ideal.exp2 (Ideal.ofBits .f32 3204448256#32 * FloatOps.sitofp (F := Ideal) .f32 (BitVec.ofNat 32 (h + 1)))

theorem sitofp_nat (h : ℕ) (hh : h < 2147483648) : (FloatOps.sitofp (F := Ideal) .f32 (BitVec.ofNat 32 h) : EReal) = ((h : ℝ) : EReal) := by
  show (((BitVec.ofNat 32 h).toInt : ℝ) : EReal) = _
  have : (BitVec.ofNat 32 h).toInt = (h : ℤ) := by
    rw [BitVec.toInt_eq_toNat_of_lt (by simp; omega), BitVec.toNat_ofNat]
    omega
  rw [this]; norm_cast

theorem ofBits_mhalf : Ideal.ofBits .f32 3204448256#32 = ((-(1 / 2) : ℝ) : EReal) := by simp [Ideal.ofBits, Ideal.ieee]; norm_cast; norm_num
theorem ofBits_m8 : Ideal.ofBits .f32 3238002688#32 = ((-8 : ℝ) : EReal) := by simp [Ideal.ofBits, Ideal.ieee]; norm_cast; norm_num
theorem ofBits_16 : Ideal.ofBits .f32 1098907648#32 = ((16 : ℝ) : EReal) := by simp [Ideal.ofBits, Ideal.ieee]; norm_cast; norm_num
theorem ofBits_2 : Ideal.ofBits .f32 1073741824#32 = ((2 : ℝ) : EReal) := by simp [Ideal.ofBits, Ideal.ieee]; norm_cast; norm_num

/-- A head's slope in the reference's form. -/
theorem slope_eq (h : ℕ) (hh : h < 16) :
    Ideal.pow (Ideal.ofBits .f32 1073741824#32) (Ideal.div (Ideal.ofBits .f32 3238002688#32 * (1 + FloatOps.sitofp (F := Ideal) .f32 (BitVec.ofNat 32 h))) (Ideal.ofBits .f32 1098907648#32)) = slopeK h := by
  unfold slopeK
  rw [sitofp_nat h (by omega), sitofp_nat (h + 1) (by omega), ofBits_mhalf, ofBits_m8, ofBits_16, ofBits_2]
  have h1 : Ideal.div (((-8 : ℝ) : EReal) * (1 + ((h : ℝ) : EReal))) ((16 : ℝ) : EReal) = ((-(1 / 2) * ((h + 1 : ℕ) : ℝ) : ℝ) : EReal) := by
    unfold Ideal.div
    rw [if_neg (by norm_cast), ← EReal.coe_one, ← EReal.coe_add, ← EReal.coe_mul, ← EReal.coe_inv, ← EReal.coe_mul]
    congr 1; push_cast; ring
  rw [h1, ← EReal.coe_mul]
  rfl

/-- The sigmoid. -/
def sg (x : EReal) : EReal := Ideal.div 1 (1 + Ideal.exp (-x))
/-- A gated output: the branch gate, the SiLU of the output's gate, the attention's output. -/
def outE (g z o : EReal) : EReal := sg g * (z * sg z) * o

/-- The attention over 512 keys in the kernel's form. -/
def att (q : Fin 128 → EReal) (k v : Fin 512 → Fin 128 → EReal) (sl : EReal) (t : ℕ) (d : Fin 128) : EReal :=
  ∑ n : Fin 512, kP (fun n : Fin 512 => xs (∑ d, q d * k n d) sl t n.val) n * v n d

/-- The same over 511 keys in the reference's form: no position reaches past the last key's span. -/
theorem att_eq (q : Fin 128 → EReal) (k v : Fin 512 → Fin 128 → EReal) (sl : EReal) (t : ℕ) (ht : t < 8192) (d : Fin 128) :
    att q k v sl t d = ∑ n : Fin 511, rP (fun n : Fin 511 => xs (∑ d, q d * k n.castSucc d) sl t n.val) n * v n.castSucc d :=
  sum_eq (n := 511) _ _ (fun i => rfl) (if_neg (by simp; omega)) fun n => v n d

/-! The arrays' places. -/

abbrev SQ : Shape := ⟨2, ![65536, 2048]⟩
abbrev SK : Shape := ⟨3, ![32, 512, 128]⟩
abbrev SR : Shape := ⟨2, ![65536, 6400]⟩

section Places
variable (b : Fin 8) (τ : Fin 8192) (g : Fin 2) (h : Fin 8) (d : Fin 128)
/-- The row of a batch entry's position. -/
def pos : Fin 65536 := ⟨8192 * b.val + τ.val, by have := b.isLt; have := τ.isLt; omega⟩
/-- A head's column among the queries and among the results. -/
def qcol : Fin 2048 := ⟨1024 * g.val + 128 * h.val + d.val, by have := g.isLt; have := h.isLt; have := d.isLt; omega⟩
/-- The column of the output's gate. -/
def zcol : Fin 6400 := ⟨1024 * g.val + 128 * h.val + d.val, by have := g.isLt; have := h.isLt; have := d.isLt; omega⟩
/-- The column of the branch gate. -/
def gcol : Fin 6400 := ⟨6144 + 128 * g.val + h.val, by have := g.isLt; have := h.isLt; omega⟩
/-- The keys of a batch entry's group. -/
def kblk : Fin 32 := ⟨2 * b.val + g.val, by have := b.isLt; have := g.isLt; omega⟩
/-- The values of a batch entry's group. -/
def vblk : Fin 32 := ⟨16 + 2 * b.val + g.val, by have := b.isLt; have := g.isLt; omega⟩

/-- One entry of the result. -/
def cell (Q : Vec Ideal SQ .bf16) (KV : Vec Ideal SK .bf16) (R : Vec Ideal SR .f32) : EReal :=
  outE (R (ix2 (pos b τ) (gcol g h))) (R (ix2 (pos b τ) (zcol g h d)))
    (att (fun d => Q (ix2 (pos b τ) (qcol g h d))) (fun n d => KV (ix3 (kblk b g) n d)) (fun n d => KV (ix3 (vblk b g) n d)) (slopeK (8 * g.val + h.val)) τ.val d)
end Places

end Cert.Cmp
end
-- ==== Proof.CmpRefLay.lean ====
module
public import proofs.«01_k».proof.Proof.CmpRef
public import proofs.«01_k».proof.Proof.CmpScore
public import Idealize.ShloMosaic.Lib.WordCmp

@[expose] public section
noncomputable section
set_option maxRecDepth 16384

namespace Cert.CmpRef
open Cert.ReferenceCmpIdeal Cert.ReferenceCmpIdeal.Gen Idealize.ShloMosaic Idealize.ShloMosaic.TcCoe Idealize.SL.Sem
open Cert.Cmp

/-! The stages of the compressed attention's reference at an index. -/

variable (Q : FVec Ideal S65536x2048 .bf16) (KV : FVec Ideal S32x512x128 .bf16) (R : FVec Ideal S65536x6400 .f32)
variable (b : Fin 8) (τ : Fin 8192) (g : Fin 2) (h : Fin 8) (d : Fin 128) (n : Fin 511)

/-- Rows of columns split by batch, position, group, head. -/
theorem lay5 (x : FVec Ideal S65536x2048 .f32) (hc) : shapeCast S8x8192x2x8x128 x hc (ix5 b τ g h d) = x (ix2 (pos b τ) (qcol g h d)) :=
  shapeCast_apply _ _ _ _ (by
    rw [Shape.rowMajor_val_two, Shape.rowMajor_val_five]
    simp [pos, qcol]; omega)

theorem rQ_at : rQ Q (ix5 b τ g h d) = (Q (ix2 (pos b τ) (qcol g h d)) : EReal) := (lay5 b τ g h d _ _).trans rfl

theorem rKV_at (a : Fin 2) : rKV KV (ix5 a b g n d) = (KV (ix3 (⟨16 * a.val + 2 * b.val + g.val, by have := a.isLt; have := b.isLt; have := g.isLt; omega⟩ : Fin 32) n.castSucc d) : EReal) := by
  have cut : ∀ x : FVec Ideal S2x8x2x512x128 .f32, extractStridedSlice S2x8x2x511x128 ![0, 0, 0, 0, 0] x slices_S2x8x2x512x128_S2x8x2x511x128_0_0_0_0_0 (ix5 a b g n d) = x (ix5 a b g n.castSucc d) := by
    intro x; pointwise []; rfl
  unfold rKV
  rw [cut]
  refine (shapeCast_apply _ _ _ (ix3 (⟨16 * a.val + 2 * b.val + g.val, by have := a.isLt; have := b.isLt; have := g.isLt; omega⟩ : Fin 32) n.castSucc d) ?_).trans rfl
  rw [Shape.rowMajor_val_three, Shape.rowMajor_val_five]
  simp; omega

theorem rK_at : rK KV (ix4 b g n d) = (KV (ix3 (kblk b g) n.castSucc d) : EReal) := by
  have cut : ∀ x : FVec Ideal S2x8x2x511x128 .f32, extractStridedSlice S1x8x2x511x128 ![0, 0, 0, 0, 0] x slices_S2x8x2x511x128_S1x8x2x511x128_0_0_0_0_0 (ix5 (0 : Fin 1) b g n d) = x (ix5 0 b g n d) := by
    intro x; pointwise []
  refine (shapeCast_apply _ _ _ (ix5 (0 : Fin 1) b g n d) ?_).trans ((cut _).trans ((rKV_at KV b g d n 0).trans ?_))
  · rw [Shape.rowMajor_val_four, Shape.rowMajor_val_five]
    simp
  · exact congrArg (fun i => KV (ix3 i n.castSucc d)) (Fin.ext (by simp [kblk]))

theorem rV_at : rV KV (ix4 b g n d) = (KV (ix3 (vblk b g) n.castSucc d) : EReal) := by
  have cut : ∀ x : FVec Ideal S2x8x2x511x128 .f32, extractStridedSlice S1x8x2x511x128 ![1, 0, 0, 0, 0] x slices_S2x8x2x511x128_S1x8x2x511x128_1_0_0_0_0 (ix5 (0 : Fin 1) b g n d) = x (ix5 1 b g n d) := by
    intro x; pointwise []
  refine (shapeCast_apply _ _ _ (ix5 (0 : Fin 1) b g n d) ?_).trans ((cut _).trans ((rKV_at KV b g d n 1).trans ?_))
  · rw [Shape.rowMajor_val_four, Shape.rowMajor_val_five]
    simp
  · exact congrArg (fun i => KV (ix3 i n.castSucc d)) (Fin.ext (by simp [vblk]))

theorem rZ_at : (rZ R (ix5 b τ g h d) : EReal) = R (ix2 (pos b τ) (zcol g h d)) * sg (R (ix2 (pos b τ) (zcol g h d))) := by
  have e : ∀ (i : Fin 65536) , (rZ0 R (ix2 i (qcol g h d)) : EReal) = R (ix2 i (zcol g h d)) := by
    intro i; pointwise [rZ0]; first | rfl | skip
  unfold rZ sg
  rw [lay5, ← e]
  pointwise []

theorem rG_at : (rG R (ix4 b τ g h) : EReal) = sg (R (ix2 (pos b τ) (gcol g h))) := by
  have e : (rG0 R (ix4 b τ g h) : EReal) = R (ix2 (pos b τ) (gcol g h)) := by
    have cut : ∀ x : FVec Ideal S8x8192x2x128 .f32, extractStridedSlice S8x8192x2x8 ![0, 0, 0, 0] x slices_S8x8192x2x128_S8x8192x2x8_0_0_0_0 (ix4 b τ g h) = x (ix4 b τ g (⟨h.val, by have := h.isLt; omega⟩ : Fin 128)) := by
      intro x; pointwise []
    have cut2 : ∀ (i : Fin 65536) (j : Fin 256) (k : Fin 6400), k.val = 6144 + j.val → extractStridedSlice S65536x256 ![0, 6144] R slices_S65536x6400_S65536x256_0_6144 (ix2 i j) = R (ix2 i k) := by
      intro i j k hk
      pointwise []
      exact congrArg (fun k => R (ix2 i k)) (Fin.ext hk.symm)
    unfold rG0
    refine (cut _).trans ((shapeCast_apply _ _ _ (ix2 (pos b τ) (⟨128 * g.val + h.val, by have := g.isLt; have := h.isLt; omega⟩ : Fin 256)) ?_).trans (cut2 _ _ _ ?_))
    · rw [Shape.rowMajor_val_two, Shape.rowMajor_val_four]
      simp [pos]; omega
    · simp [gcol]; omega
  unfold sg
  rw [← e]
  pointwise [rG]

theorem rSl_at : (rSl (ix2 g h) : EReal) = slopeK (8 * g.val + h.val) := by
  have hg := g.isLt
  have hh := h.isLt
  unfold rSl
  refine (shapeCast_apply _ _ _ (ix1 (⟨8 * g.val + h.val, by omega⟩ : Fin 16)) ?_).trans (Eq.trans ?_ (slope_eq (8 * g.val + h.val) (by omega)))
  · rw [Shape.rowMajor_val_two, Shape.rowMajor_val_one]
    simp <;> omega
  · pointwise []

theorem rD_at : (rD (ix2 τ n) : EReal) = FloatOps.sitofp (F := Ideal) .f32 (BitVec.ofNat 32 τ.val) - (FloatOps.sitofp (F := Ideal) .f32 (BitVec.ofNat 32 (16 * n.val)) + Ideal.ofBits .f32 1098383360#32) := by
  have hn := n.isLt
  have hw : BitVec.ofNat 32 n.val * 16#32 = BitVec.ofNat 32 (16 * n.val) := by
    apply BitVec.eq_of_toNat_eq
    simp only [BitVec.toNat_mul, BitVec.toNat_ofNat]
    omega
  rw [← hw]
  pointwise [rD]
  rfl

theorem rB_at : (rB (ix2 τ n) : BitVec 1) = BitVec.ofBool (decide (16 * n.val + 31 ≤ τ.val)) := by
  have hn := n.isLt
  have ht := τ.isLt
  have hw : BitVec.ofNat 32 n.val * 16#32 + 32#32 - 1#32 = BitVec.ofNat 32 (16 * n.val + 31) := by
    apply BitVec.eq_of_toNat_eq
    simp only [BitVec.toNat_sub, BitVec.toNat_add, BitVec.toNat_mul, BitVec.toNat_ofNat]
    omega
  rw [← WordCmp.cmpi_sle_ofNat (w := 32) (by omega) (by omega), ← hw]
  pointwise [rB]
  rfl

theorem rA_at : (rA (ix4 τ g h n) : EReal) = slopeK (8 * g.val + h.val) * (FloatOps.sitofp (F := Ideal) .f32 (BitVec.ofNat 32 τ.val) - (FloatOps.sitofp (F := Ideal) .f32 (BitVec.ofNat 32 (16 * n.val)) + Ideal.ofBits .f32 1098383360#32)) := by
  rw [← rD_at, ← rSl_at]
  pointwise [rA]

end Cert.CmpRef
end
-- ==== Proof.CmpRefAt.lean ====
module
public import proofs.«01_k».proof.Proof.CmpRefLay
public import proofs.«01_k».proof.Proof.CmpScore

@[expose] public section
noncomputable section
set_option maxRecDepth 16384

namespace Cert.CmpRef
open Cert.ReferenceCmpIdeal Cert.ReferenceCmpIdeal.Gen Idealize.ShloMosaic Idealize.ShloMosaic.TcCoe Idealize.SL.Sem
open Cert.Cmp

/-! The stages of the compressed attention's reference at an index. -/

variable (Q : FVec Ideal S65536x2048 .bf16) (KV : FVec Ideal S32x512x128 .bf16) (R : FVec Ideal S65536x6400 .f32)
variable (b : Fin 8) (τ : Fin 8192) (g : Fin 2) (h : Fin 8) (d : Fin 128) (n : Fin 511)

theorem rS_op : (rS Q KV (ix5 b τ g h n) : EReal) = (∑ d : Fin 128, (rK KV (ix4 b g n d) : EReal) * rQ Q (ix5 b τ g h d)) - rA (ix4 τ g h n) := by
  pointwise [rS]

theorem rX_op : (rX Q KV (ix5 b τ g h n) : EReal) = Scalar.select (rB (ix2 τ n)) (rS Q KV (ix5 b τ g h n) : EReal) (Ideal.ofBits .f32 4286578688#32) := by
  pointwise [rX]

theorem max5_at (x : FVec Ideal S8x8192x2x8x511 .f32) (hd : S8x8192x2x8x511.ReducesTo [4] S8x8192x2x8) (hu : 0 < S_.numel) :
    Host.reduce FloatOps.maximumf x (constant S_ .f32 0xFF800000#32) hd hu (ix4 b τ g h) = top fun n : Fin 511 => (x (ix5 b τ g h n) : EReal) := by
  have hr : S8x8192x2x8x511.Reduces [4] S8x8192x2x8 := by decide
  refine (Host.reduce_eq_fold_single (max : EReal → EReal → EReal) x (constant (F := Ideal) S_ .f32 0xFF800000#32) hd hr hu (ix4 b τ g h)).trans ?_
  rw [show (constant (F := Ideal) S_ .f32 0xFF800000#32) (Shape.Idx.first hu) = (⊥ : EReal) from by
    show Ideal.ofBits .f32 4286578688#32 = ⊥
    simp [Ideal.ofBits, Ideal.ieee]]
  refine congrArg (fun f => Finset.fold max ⊥ f (Finset.univ : Finset (Fin 511))) (funext fun s => congrArg x (funext fun b => ?_))
  match b with
  | ⟨0, _⟩ => rfl
  | ⟨1, _⟩ => rfl
  | ⟨2, _⟩ => rfl
  | ⟨3, _⟩ => rfl
  | ⟨4, _⟩ => rfl

theorem rT_op (y : FVec Ideal S8x8192x2x8 .f32) : (broadcastInDim S8x8192x2x8x1 ![0, 1, 2, 3] bcast_S8x8192x2x8_S8x8192x2x8x1_0_1_2_3 y (ix5 b τ g h (0 : Fin 1)) : EReal) = y (ix4 b τ g h) := by
  pointwise []

/-- A number that is not finite is replaced by zero. -/
theorem keep_finite (x : EReal) : Scalar.select (Ideal.cmp .olt (max x (-x)) (Ideal.ofBits .f32 2139095040#32)) x (Ideal.ofBits .f32 0#32) = if x = ⊤ ∨ x = ⊥ then 0 else x := by
  have h1 : Ideal.ofBits .f32 2139095040#32 = ⊤ := by simp [Ideal.ofBits, Ideal.ieee]
  have h0 : Ideal.ofBits .f32 0#32 = 0 := by simp [Ideal.ofBits, Ideal.ieee]
  rw [h1, h0]
  unfold Ideal.cmp Scalar.select
  induction x using EReal.rec with
  | bot => simp
  | top => simp
  | coe r =>
    have h : max (r : EReal) (-(r : EReal)) < ⊤ := max_lt (EReal.coe_lt_top r) (by rw [← EReal.coe_neg]; exact EReal.coe_lt_top _)
    simp [h]

/-- The maxima with those that are not finite replaced, at an index. -/
theorem finite_at (y : FVec Ideal S8x8192x2x8x1 .f32) (i : S8x8192x2x8x1.Idx) :
    (select (cmpf .olt (Host.absf y) (broadcastInDim S8x8192x2x8x1 ![] bcast_S_S8x8192x2x8x1 (constant S_ .f32 0x7F800000#32))) y (broadcastInDim S8x8192x2x8x1 ![] bcast_S_S8x8192x2x8x1 (constant S_ .f32 0x00000000#32))) i
      = Scalar.select (Ideal.cmp .olt (max (y i) (-(y i))) (Ideal.ofBits .f32 2139095040#32)) (y i) (Ideal.ofBits .f32 0#32) := by
  rfl

theorem rE_op : (rE Q KV (ix5 b τ g h n) : EReal) = Ideal.exp ((rX Q KV (ix5 b τ g h n) : EReal) - rMx Q KV (ix5 b τ g h (0 : Fin 1))) := by
  unfold rE
  generalize rX Q KV = x
  generalize rMx Q KV = y
  pointwise []

theorem rW_op : (rW Q KV (ix5 b τ g h n) : EReal) = Ideal.div (rE Q KV (ix5 b τ g h n)) (max (∑ j : Fin 511, (rE Q KV (ix5 b τ g h j) : EReal)) eps) := by
  unfold eps
  pointwise [rW]

theorem rO_op : (rO Q KV (ix5 b τ g h d) : EReal) = ∑ n : Fin 511, (rV KV (ix4 b g n d) : EReal) * rW Q KV (ix5 b τ g h n) := by
  pointwise [rO]

/-- A row of scores. -/
def sc (n : Fin 511) : EReal := xs (∑ d : Fin 128, (Q (ix2 (pos b τ) (qcol g h d)) : EReal) * KV (ix3 (kblk b g) n.castSucc d)) (slopeK (8 * g.val + h.val)) τ.val n.val

theorem rX_at : (rX Q KV (ix5 b τ g h n) : EReal) = sc Q KV b τ g h n := by
  rw [rX_op, rB_at, rS_op, rA_at]
  unfold sc xs
  simp only [rQ_at, rK_at]
  rw [Finset.sum_congr rfl fun d _ => mul_comm (KV (ix3 (kblk b g) n.castSucc d) : EReal) (Q (ix2 (pos b τ) (qcol g h d)))]
  by_cases hc : 16 * n.val + 31 ≤ τ.val
  · rw [if_pos hc]; simp [Scalar.select, hc]
  · rw [if_neg hc]; simp [Scalar.select, hc, Ideal.ofBits, Ideal.ieee]

theorem rT_at : (rT Q KV (ix5 b τ g h (0 : Fin 1)) : EReal) = top (sc Q KV b τ g h) := by
  unfold rT
  rw [rT_op, max5_at]
  exact congrArg top (funext fun n => rX_at Q KV b τ g h n)

theorem rMx_at : (rMx Q KV (ix5 b τ g h (0 : Fin 1)) : EReal) = rM (sc Q KV b τ g h) := by
  have e := (finite_at (rT Q KV) (ix5 b τ g h (0 : Fin 1))).trans (keep_finite _)
  rw [rT_at] at e
  exact e

theorem rE_at : (rE Q KV (ix5 b τ g h n) : EReal) = Ideal.exp (sc Q KV b τ g h n - rM (sc Q KV b τ g h)) := by
  rw [← rMx_at, ← rX_at, rE_op]

theorem rW_at : (rW Q KV (ix5 b τ g h n) : EReal) = rP (sc Q KV b τ g h) n := by
  unfold rP
  simp only [← rE_at]
  exact rW_op Q KV b τ g h n

theorem rO_at : (rO Q KV (ix5 b τ g h d) : EReal) = ∑ n : Fin 511, rP (sc Q KV b τ g h) n * (KV (ix3 (vblk b g) n.castSucc d) : EReal) := by
  rw [rO_op]
  refine Finset.sum_congr rfl fun n _ => ?_
  rw [rW_at, rV_at, mul_comm]

/-- The last products, at an index. -/
theorem prod_at (G : FVec Ideal S8x8192x2x8 .f32) (Z O : FVec Ideal S8x8192x2x8x128 .f32) :
    (mulf (mulf (broadcastInDim S8x8192x2x8x128 ![0, 1, 2, 3, 4] bcast_S8x8192x2x8x1_S8x8192x2x8x128_0_1_2_3_4
      (broadcastInDim S8x8192x2x8x1 ![0, 1, 2, 3] bcast_S8x8192x2x8_S8x8192x2x8x1_0_1_2_3 G)) Z) O (ix5 b τ g h d) : EReal)
      = G (ix4 b τ g h) * Z (ix5 b τ g h d) * O (ix5 b τ g h d) := by
  pointwise []

/-- The reference's result, entry by entry. -/
theorem REF_at : (REF Q KV R (ix2 (pos b τ) (qcol g h d)) : EReal) = cell b τ g h d Q KV R := by
  unfold REF cell outE
  rw [att_eq _ _ _ _ _ τ.isLt]
  refine (shapeCast_apply _ _ _ (ix5 b τ g h d) ?_).trans ((prod_at b τ g h d _ _ _).trans ?_)
  · rw [Shape.rowMajor_val_two, Shape.rowMajor_val_five]
    simp [pos, qcol]; omega
  · rw [rG_at, rZ_at, rO_at]
    rfl

end Cert.CmpRef
end
-- ==== Proof.CmpQk.lean ====
module
public import proofs.«01_k».proof.Proof.Gen.KernelCmpIdeal
public import proofs.«01_k».proof.Proof.Gen.KernelCmpIdeal.Frame
public import proofs.«01_k».proof.Proof.CmpScore
public import Idealize.ShloMosaic.Lib.Pipeline.ValueKit
public import Idealize.ShloMosaic.Lib.Pipeline.ReadBack

@[expose] public section
noncomputable section
set_option maxRecDepth 16384

namespace Cert.CmpKernel
open Cert.KernelCmpIdeal Cert.KernelCmpIdeal.Gen Idealize.ShloMosaic Idealize.ShloMosaic.TcCoe Idealize.SL.Sem
open Idealize.ShloMosaic.Pipeline (Dat)
open Cert.Cmp

/-! What one grid point of the compressed attention leaves: per head and position a masked softmax over the keys. -/

/-- Row `s` of head `h` among the stacked rows. -/
def row (h : Fin 8) (s : Fin 128) : Fin 1024 := ⟨128 * h.val + s.val, by have := h.isLt; have := s.isLt; omega⟩

/-- The heads' queries, one below another. -/
def stack (X0 : Vec Ideal S128x1024 .bf16) : FVec Ideal S1024x128 .bf16 :=
  concatenate S1024x128 0 [⟨S128x128, extractStridedSlice S128x128 ![0, 0] X0 slices_S128x1024_o0_0_S128x128⟩, ⟨S128x128, extractStridedSlice S128x128 ![0, 128] X0 slices_S128x1024_o0_128_S128x128⟩, ⟨S128x128, extractStridedSlice S128x128 ![0, 256] X0 slices_S128x1024_o0_256_S128x128⟩, ⟨S128x128, extractStridedSlice S128x128 ![0, 384] X0 slices_S128x1024_o0_384_S128x128⟩, ⟨S128x128, extractStridedSlice S128x128 ![0, 512] X0 slices_S128x1024_o0_512_S128x128⟩, ⟨S128x128, extractStridedSlice S128x128 ![0, 640] X0 slices_S128x1024_o0_640_S128x128⟩, ⟨S128x128, extractStridedSlice S128x128 ![0, 768] X0 slices_S128x1024_o0_768_S128x128⟩, ⟨S128x128, extractStridedSlice S128x128 ![0, 896] X0 slices_S128x1024_o0_896_S128x128⟩] concatenates_S128x128_S128x128_S128x128_S128x128_S128x128_S128x128_S128x128_S128x128_S1024x128_d0

/-- A piece of a stack of eight square blocks. -/
theorem piece (xs : List ((s : Shape) × (s.Idx → EReal))) (hc : Shape.Concatenates (xs.map (·.1)) S1024x128 0) (h : Fin 8) (s d : Fin 128)
    (hk : h.val < xs.length) (x : S128x128.Idx → EReal) (hx : xs[h.val] = ⟨S128x128, x⟩)
    (hpre : (((xs.take h.val).map (·.1)).map fun s => if h : s.rank = S1024x128.rank then s.size ((0 : Fin S1024x128.rank).cast h.symm) else 0).sum = 128 * h.val) :
    concatenate S1024x128 0 xs hc (ix2 (row h s) d) = x (ix2 s d) :=
  concatenate_apply_piece (0 : Fin S1024x128.rank) xs hc _ h.val hk S128x128 x hx rfl _ hpre (ix2 s d)
    (fun b hb => by
      match b with
      | ⟨0, _⟩ => exact absurd rfl hb
      | ⟨1, _⟩ => rfl) rfl

/-- A stacked row is the head's columns of a row. -/
theorem stack_row (X0 : Vec Ideal S128x1024 .bf16) (h : Fin 8) (s d : Fin 128) : stack X0 (ix2 (row h s) d) = X0 (ix2 s (row h d)) := by
  unfold stack
  have cut : ∀ (k : ℕ) (hs) , k = 128 * h.val → extractStridedSlice S128x128 ![0, k] X0 hs (ix2 s d) = X0 (ix2 s (row h d)) := by
    intro k hs hk
    subst hk
    exact congrArg X0 (funext fun a => Fin.ext (by fin_cases a <;> simp [row]))
  fin_cases h
  · exact (piece _ _ 0 s d (Nat.lt_of_sub_eq_succ rfl) _ rfl rfl).trans (cut 0 _ rfl)
  · exact (piece _ _ 1 s d (Nat.lt_of_sub_eq_succ rfl) _ rfl rfl).trans (cut 128 _ rfl)
  · exact (piece _ _ 2 s d (Nat.lt_of_sub_eq_succ rfl) _ rfl rfl).trans (cut 256 _ rfl)
  · exact (piece _ _ 3 s d (Nat.lt_of_sub_eq_succ rfl) _ rfl rfl).trans (cut 384 _ rfl)
  · exact (piece _ _ 4 s d (Nat.lt_of_sub_eq_succ rfl) _ rfl rfl).trans (cut 512 _ rfl)
  · exact (piece _ _ 5 s d (Nat.lt_of_sub_eq_succ rfl) _ rfl rfl).trans (cut 640 _ rfl)
  · exact (piece _ _ 6 s d (Nat.lt_of_sub_eq_succ rfl) _ rfl rfl).trans (cut 768 _ rfl)
  · exact (piece _ _ 7 s d (Nat.lt_of_sub_eq_succ rfl) _ rfl rfl).trans (cut 896 _ rfl)

set_option maxHeartbeats 1000000 in
/-- The products of a head's queries with the keys. -/
theorem qk_at (X0 : Vec Ideal S128x1024 .bf16) (X1 : Vec Ideal S1x512x128 .bf16) (h : Fin 8) (s : Fin 128) (n : Fin 512) :
    (k0_pay8 X0 X1 (ix2 (row h s) n) : EReal) = ∑ d : Fin 128, (X0 (ix2 s (row h d)) : EReal) * X1 (ix3 (0 : Fin 1) n d) := by
  have e : ∀ Y : FVec Ideal S1024x128 .bf16, ∀ r : Fin 1024, (matmul dot_S1024x128_S512x128_S1024x512_1_1_0_0_n_n none Y (shapeCast S512x128 X1 shapeCasts_S1x512x128_S512x128 : FVec Ideal S512x128 .bf16) (constant S1024x512 .f32 0x00000000#32) (ix2 r n) : EReal)
      = ∑ d : Fin 128, (Y (ix2 r d) : EReal) * X1 (ix3 (0 : Fin 1) n d) := by
    intro Y r
    pointwise []
  refine (e (stack X0) (row h s)).trans ?_
  simp only [stack_row]

end Cert.CmpKernel
end
-- ==== Proof.CmpHeads.lean ====
module
public import proofs.«01_k».proof.Proof.Gen.KernelCmpIdeal
public import proofs.«01_k».proof.Proof.Gen.KernelCmpIdeal.Frame
public import proofs.«01_k».proof.Proof.CmpQk
public import Idealize.ShloMosaic.Lib.Pipeline.ValueKit
public import Idealize.ShloMosaic.Lib.Pipeline.ReadBack

@[expose] public section
noncomputable section
set_option maxRecDepth 16384

namespace Cert.CmpKernel
open Cert.KernelCmpIdeal Cert.KernelCmpIdeal.Gen Idealize.ShloMosaic Idealize.ShloMosaic.TcCoe Idealize.SL.Sem
open Idealize.ShloMosaic.Pipeline (Dat)
open Cert.Cmp

/-! What one grid point of the compressed attention leaves: per head and position a masked softmax over the keys. -/

set_option maxHeartbeats 4000000 in
/-- The heads' output blocks. -/
theorem heads_at (o : FVec Ideal S1024x128 .f32) (G : Vec Ideal S128x128 .f32) (Z : Fin 8 → Vec Ideal S128x128 .f32) (h : Fin 8) (s d : Fin 128) :
    ((![k0_pay64 o G (Z 0), k0_pay65 o (k0_pay63 G) (Z 1), k0_pay66 o (k0_pay63 G) (Z 2),
      k0_pay69 o (k0_pay67 (k0_pay63 G)) (Z 3) (k0_pay68 (Z 3)) (Scalar.ofBits .f32 0x3F800000#32), k0_pay70 o (k0_pay63 G) (Z 4), k0_pay71 o (k0_pay63 G) (Z 5),
      k0_pay1 o (k0_pay72 (k0_pay63 G)) (Z 6), k0_pay2 o (k0_pay63 G) (Z 7)] : Fin 8 → FVec Ideal S128x128 .f32) h (ix2 s d) : EReal)
      = outE (G (ix2 s (⟨h.val, by have := h.isLt; omega⟩ : Fin 128))) (Z h (ix2 s d)) (o (ix2 (row h s) d)) := by
  unfold outE sg
  fin_cases h
  · show (k0_pay64 o G (Z 0) (ix2 s d) : EReal) = _
    pointwise [k0_pay64, k0_pay63, row]
    simp only [zero_sub]
  · show (k0_pay65 o (k0_pay63 G) (Z 1) (ix2 s d) : EReal) = _
    pointwise [k0_pay65, k0_pay63, row]
    simp only [zero_sub]
  · show (k0_pay66 o (k0_pay63 G) (Z 2) (ix2 s d) : EReal) = _
    pointwise [k0_pay66, k0_pay63, row]
    simp only [zero_sub]
  · show (k0_pay69 o (k0_pay67 (k0_pay63 G)) (Z 3) (k0_pay68 (Z 3)) (Scalar.ofBits .f32 0x3F800000#32) (ix2 s d) : EReal) = _
    pointwise [k0_pay69, k0_pay67, k0_pay68, k0_pay63, row]
    simp only [zero_sub]
  · show (k0_pay70 o (k0_pay63 G) (Z 4) (ix2 s d) : EReal) = _
    pointwise [k0_pay70, k0_pay63, row]
    simp only [zero_sub]
  · show (k0_pay71 o (k0_pay63 G) (Z 5) (ix2 s d) : EReal) = _
    pointwise [k0_pay71, k0_pay63, row]
    simp only [zero_sub]
  · show (k0_pay1 o (k0_pay72 (k0_pay63 G)) (Z 6) (ix2 s d) : EReal) = _
    pointwise [k0_pay1, k0_pay72, k0_pay63, row]
    simp only [zero_sub]
  · show (k0_pay2 o (k0_pay63 G) (Z 7) (ix2 s d) : EReal) = _
    pointwise [k0_pay2, k0_pay63, row]
    simp only [zero_sub]

end Cert.CmpKernel
end
-- ==== Proof.CmpKernel.lean ====
module
public import proofs.«01_k».proof.Proof.Gen.KernelCmpIdeal
public import proofs.«01_k».proof.Proof.Gen.KernelCmpIdeal.Frame
public import proofs.«01_k».proof.Proof.CmpQk
public import Idealize.ShloMosaic.Lib.Pipeline.ValueKit
public import Idealize.ShloMosaic.Lib.Pipeline.ReadBack

@[expose] public section
noncomputable section
set_option maxRecDepth 16384

namespace Cert.CmpKernel
open Cert.KernelCmpIdeal Cert.KernelCmpIdeal.Gen Idealize.ShloMosaic Idealize.ShloMosaic.TcCoe Idealize.SL.Sem
open Idealize.ShloMosaic.Pipeline (Dat)
open Cert.Cmp

/-! What one grid point of the compressed attention leaves: per head and position a masked softmax over the keys. -/

theorem ofBits_ninf : Ideal.ofBits .f32 4286578688#32 = ⊥ := by simp [Ideal.ofBits, Ideal.ieee]

/-- The stacked rows' head. -/
theorem head_word (r : Fin 1024) : BitVec.ofNat 32 r.val >>> (7#32) = BitVec.ofNat 32 (r.val / 128) := by revert r; decide +kernel
/-- The stacked rows' position. -/
theorem pos_word (r : Fin 1024) (i : Fin 64) : BitVec.ofNat 32 i.val * 128#32 + (BitVec.ofNat 32 r.val - BitVec.ofNat 32 (r.val / 128) * 128#32) = BitVec.ofNat 32 (128 * i.val + r.val % 128) := by
  have hr := r.isLt
  have hi := i.isLt
  apply BitVec.eq_of_toNat_eq
  simp only [BitVec.toNat_add, BitVec.toNat_sub, BitVec.toNat_mul, BitVec.toNat_ofNat]
  omega

theorem rows_at (i : grid0.Coords) (r : Fin 1024) : (k0_pay4 i (ix2 r (0 : Fin 1)) : BitVec 32) = BitVec.ofNat 32 (128 * (i 2).val + r.val % 128) := by
  pointwise [k0_pay4, k0_pay3]
  rw [← pos_word r (i 2), ← head_word r]
  rfl

theorem slope_at (i : grid0.Coords) (r : Fin 1024) : (k0_pay5 (F := Ideal) i (ix2 r (0 : Fin 1)) : EReal) = slopeK (8 * (i 1).val + r.val / 128) := by
  have h1 : (i 1).val < 2 := (i 1).isLt
  have hr := r.isLt
  have hw : BitVec.ofNat 32 (i 1).val * 8#32 + BitVec.ofNat 32 (r.val / 128) + 1#32 = BitVec.ofNat 32 (8 * (i 1).val + r.val / 128 + 1) := by
    apply BitVec.eq_of_toNat_eq
    simp only [BitVec.toNat_add, BitVec.toNat_mul, BitVec.toNat_ofNat]
    omega
  pointwise [k0_pay5, k0_pay3]
  unfold slopeK
  rw [← hw, ← head_word r]
  rfl

theorem mid_at (n : Fin 512) : (k0_pay6 (F := Ideal) (ix2 (0 : Fin 1) n) : EReal)
    = FloatOps.sitofp (F := Ideal) .f32 (BitVec.ofNat 32 (16 * n.val)) + Ideal.ofBits .f32 1098383360#32 := by
  have hn := n.isLt
  have hw : BitVec.ofNat 32 n.val * 16#32 = BitVec.ofNat 32 (16 * n.val) := by
    apply BitVec.eq_of_toNat_eq
    simp only [BitVec.toNat_mul, BitVec.toNat_ofNat]
    omega
  pointwise [k0_pay6]
  rw [← hw]
  rfl

theorem end_at (n : Fin 512) : (k0_pay7 (ix2 (0 : Fin 1) n) : BitVec 32) = BitVec.ofNat 32 (16 * n.val + 31) := by
  have hn := n.isLt
  pointwise [k0_pay7]
  apply BitVec.eq_of_toNat_eq
  show ((BitVec.ofNat 32 n.val * 16#32) + 31#32).toNat = _
  simp only [BitVec.toNat_add, BitVec.toNat_mul, BitVec.toNat_ofNat]
  omega

/-- The weights are the masked softmax of the scores. -/
theorem p_at (a : IVec S1024x1 32) (b : FVec Ideal S1024x1 .f32) (c : FVec Ideal S1x512 .f32) (e : IVec S1x512 32) (q : FVec Ideal S1024x512 .f32)
    (x : Fin 512 → EReal) (r : Fin 1024)
    (hx : ∀ n, Scalar.select (IntOp.cmpi .sle (e (ix2 (0 : Fin 1) n)) (a (ix2 r (0 : Fin 1)))) (q (ix2 r n) - b (ix2 r (0 : Fin 1)) * (FloatOps.sitofp .f32 (a (ix2 r (0 : Fin 1))) - c (ix2 (0 : Fin 1) n))) (⊥ : EReal) = x n)
    (n : Fin 512) :
    (k0_pay9 a b c e q (ix2 r n) : EReal) = kP x n := by
  unfold kP kM top
  pointwise [k0_pay9]
  simp only [ofBits_ninf, hx]
  rfl

theorem o_at (a : IVec S1024x1 32) (b : FVec Ideal S1024x1 .f32) (c : FVec Ideal S1x512 .f32) (e : IVec S1x512 32) (q : FVec Ideal S1024x512 .f32)
    (v : Vec Ideal S1x512x128 .bf16) (r : Fin 1024) (d : Fin 128) :
    (k0_pay10 a b c e q v (ix2 r d) : EReal) = ∑ n : Fin 512, (k0_pay9 a b c e q (ix2 r n) : EReal) * v (ix3 (0 : Fin 1) n d) := by
  pointwise [k0_pay10]

section Heads
variable (i : grid0.Coords) (X0 : Vec Ideal S128x1024 .bf16) (X1 X2 : Vec Ideal S1x512x128 .bf16)

/-- The stacked heads' attention. -/
theorem stack_at (h : Fin 8) (s : Fin 128) (d : Fin 128) :
    (k0_pay10 (k0_pay4 i) (k0_pay5 i) k0_pay6 k0_pay7 (k0_pay8 X0 X1) X2 (ix2 (row h s) d) : EReal)
      = att (fun d => X0 (ix2 s (row h d))) (fun n d => X1 (ix3 (0 : Fin 1) n d)) (fun n d => X2 (ix3 (0 : Fin 1) n d)) (slopeK (8 * (i 1).val + h.val)) (128 * (i 2).val + s.val) d := by
  have hs := s.isLt
  have h2 : (i 2).val < 64 := (i 2).isLt
  have e1 : (row h s).val / 128 = h.val := by show (128 * h.val + s.val) / 128 = h.val; omega
  have e2 : (row h s).val % 128 = s.val := by show (128 * h.val + s.val) % 128 = s.val; omega
  rw [o_at]
  unfold att
  refine Finset.sum_congr rfl fun n _ => congrArg (· * _) (p_at _ _ _ _ _ _ _ (fun n => ?_) n)
  have hn := n.isLt
  rw [rows_at, slope_at, mid_at, end_at, qk_at, e1, e2]
  unfold xs
  rw [WordCmp.cmpi_sle_ofNat (by omega) (by omega)]
  by_cases hc : 16 * n.val + 31 ≤ 128 * (i 2).val + s.val
  · rw [if_pos hc]; simp [Scalar.select, hc]
  · rw [if_neg hc]; simp [Scalar.select, hc]

end Heads

end Cert.CmpKernel
end
-- ==== Proof.Mlstm.lean ====
module
public import Idealize.ShloMosaic.PureOps.Ideal
public import Idealize.ShloMosaic.PureOps.Ideal.Laws
public import Idealize.ShloMosaic.Lib.Pipeline.ValueKit

@[expose] public section
noncomputable section

/-! The stabilised chunkwise mLSTM cell over the extended reals, at real data, equals the unstabilised recurrence,
    whatever real numbers the stabilisers are and whatever the chunk length is. -/

namespace Cert.Mlstm
open Idealize.ShloMosaic Finset

/-- The coercion of reals commutes with finite sums. -/
theorem coe_sum {ι : Type*} (s : Finset ι) (f : ι → ℝ) : ((∑ x ∈ s, f x : ℝ) : EReal) = ∑ x ∈ s, (f x : EReal) := by
  classical
  induction s using Finset.induction_on with
  | empty => simp
  | insert a s ha ih => rw [sum_insert ha, sum_insert ha, EReal.coe_add, ih]

/-- A value is a real number. -/
def IsReal (x : EReal) : Prop := ∃ r : ℝ, x = (r : EReal)

theorem isReal_max {x y : EReal} (hx : IsReal x) (hy : IsReal y) : IsReal (max x y) := by
  obtain ⟨a, rfl⟩ := hx; obtain ⟨b, rfl⟩ := hy
  exact ⟨max a b, by rw [EReal.coe_strictMono.monotone.map_max]⟩

theorem isReal_add {x y : EReal} (hx : IsReal x) (hy : IsReal y) : IsReal (x + y) := by
  obtain ⟨a, rfl⟩ := hx; obtain ⟨b, rfl⟩ := hy; exact ⟨a + b, by push_cast; rfl⟩

theorem isReal_sub {x y : EReal} (hx : IsReal x) (hy : IsReal y) : IsReal (x - y) := by
  obtain ⟨a, rfl⟩ := hx; obtain ⟨b, rfl⟩ := hy; exact ⟨a - b, by push_cast; rfl⟩

/-- A maximum from −∞ of values each real or −∞, one of them real, is real. -/
theorem isReal_fold {ι : Type*} [Fintype ι] (f : ι → EReal) (h : ∀ s, f s = ⊥ ∨ IsReal (f s)) (s₀ : ι)
    (h₀ : IsReal (f s₀)) : IsReal ((univ : Finset ι).fold max ⊥ f) := by
  classical
  have key : ∀ S : Finset ι, S.fold max ⊥ f = ⊥ ∨ IsReal (S.fold max ⊥ f) := by
    intro S
    induction S using Finset.induction_on with
    | empty => exact Or.inl rfl
    | insert a S ha ih =>
      rw [fold_insert ha]
      rcases h a with h1 | h1 <;> rcases ih with h2 | h2
      · left; rw [h1, h2]; exact max_self _
      · right; rw [h1]; rwa [max_eq_right bot_le]
      · right; rw [h2]; rwa [max_eq_left bot_le]
      · right; exact isReal_max h1 h2
  rcases key univ with h1 | h1
  · exfalso
    have : f s₀ ≤ (univ : Finset ι).fold max ⊥ f := (Finset.le_fold_max _).2 (Or.inr ⟨s₀, mem_univ _, le_rfl⟩)
    rw [h1] at this
    obtain ⟨r, hr⟩ := h₀
    rw [hr] at this
    exact absurd (le_bot_iff.1 this) (EReal.coe_ne_bot r)
  · exact h1

/-! ### The unstabilised recurrence over the reals -/

variable (Q K V : ℕ → Fin 512 → ℝ) (I G : ℕ → ℝ)

/-- The log forget gates summed up to position `j`. -/
def S (j : ℕ) : ℝ := ∑ r ∈ range j, G r
/-- The weight of position `s` after `T` positions. -/
def wt (T s : ℕ) : ℝ := Real.exp (S G T - S G (s + 1) + I s)
/-- The matrix memory after `T` positions. -/
def Cst (T : ℕ) (d e : Fin 512) : ℝ := ∑ s ∈ range T, wt I G T s * (K s d * V s e)
/-- The normaliser memory after `T` positions. -/
def Nst (T : ℕ) (d : Fin 512) : ℝ := ∑ s ∈ range T, wt I G T s * K s d
/-- The product of a query and a key. -/
def qk (t s : ℕ) : ℝ := ∑ d, Q t d * K s d
/-- The numerator at position `t`. -/
def Nt (t : ℕ) (e : Fin 512) : ℝ := ∑ s ∈ range (t + 1), wt I G (t + 1) s * (qk Q K t s * V s e)
/-- The denominator at position `t`. -/
def Dt (t : ℕ) : ℝ := ∑ s ∈ range (t + 1), wt I G (t + 1) s * qk Q K t s
/-- The cell's output at position `t`. -/
def hout (t : ℕ) (e : Fin 512) : ℝ := Nt Q K V I G t e / max |Dt Q K I G t| 1

/-- A sum over a chunk's positions up to one of them, as a sum over numbers. -/
theorem sum_le {L : ℕ} (t : Fin L) (g : ℕ → ℝ) :
    (∑ s : Fin L, if s ≤ t then g s else 0) = ∑ s ∈ range (t + 1), g s := by
  have e2 : ∀ s : Fin L, (if s ≤ t then g s else 0) = (fun s : ℕ => if s ≤ (t : ℕ) then g s else 0) s := fun s => by
    simp only [Fin.le_def]
  rw [Finset.sum_congr rfl fun s _ => e2 s, Fin.sum_univ_eq_sum_range (fun s : ℕ => if s ≤ (t : ℕ) then g s else 0),
    ← Finset.sum_filter]
  congr 1
  ext s
  simp only [mem_filter, mem_range]
  have := t.isLt
  omega

/-- A weighted sum up to a position in a chunk: the part before the chunk, decayed, plus the part in it. -/
theorem split_sum (T L : ℕ) (t : Fin L) (f : ℕ → ℝ) (mt : ℝ) :
    Real.exp (S G (T + t + 1) - S G T - mt) * (∑ s ∈ range T, wt I G T s * f s)
      + ∑ s : Fin L, f (T + s) * (if s ≤ t then Real.exp ((S G (T + t + 1) - S G T) - (S G (T + s + 1) - S G T) + I (T + s) - mt) else 0)
      = Real.exp (-mt) * ∑ s ∈ range (T + t + 1), wt I G (T + t + 1) s * f s := by
  simp only [mul_ite, mul_zero]
  rw [sum_le t (fun s => f (T + s) * Real.exp ((S G (T + t + 1) - S G T) - (S G (T + s + 1) - S G T) + I (T + s) - mt))]
  rw [show T + t + 1 = T + (t + 1) by ring, Finset.sum_range_add (fun s => wt I G (T + (t + 1)) s * f s), mul_add, Finset.mul_sum, Finset.mul_sum, Finset.mul_sum]
  refine congrArg₂ (· + ·) (Finset.sum_congr rfl fun s _ => ?_) (Finset.sum_congr rfl fun s _ => ?_)
  · unfold wt
    rw [← mul_assoc, ← Real.exp_add, ← mul_assoc, ← Real.exp_add]
    congr 2; ring
  · unfold wt
    rw [← mul_assoc, ← Real.exp_add, mul_comm, show T + s + 1 = T + (s + 1) by ring]
    congr 2; ring

/-- A memory after a chunk: the memory before it, decayed, plus the chunk's own terms. -/
theorem split_state (T L : ℕ) (f : ℕ → ℝ) (m' : ℝ) :
    Real.exp (S G (T + L) - S G T - m') * (∑ s ∈ range T, wt I G T s * f s)
      + ∑ s : Fin L, f (T + s) * Real.exp ((S G (T + L) - S G T) - (S G (T + s + 1) - S G T) + I (T + s) - m')
      = Real.exp (-m') * ∑ s ∈ range (T + L), wt I G (T + L) s * f s := by
  rw [Fin.sum_univ_eq_sum_range (fun s => f (T + s) * Real.exp ((S G (T + L) - S G T) - (S G (T + s + 1) - S G T) + I (T + s) - m')),
    Finset.sum_range_add, mul_add, Finset.mul_sum, Finset.mul_sum, Finset.mul_sum]
  refine congrArg₂ (· + ·) (Finset.sum_congr rfl fun s _ => ?_) (Finset.sum_congr rfl fun s _ => ?_)
  · unfold wt
    rw [← mul_assoc, ← Real.exp_add, ← mul_assoc, ← Real.exp_add]
    congr 2; ring
  · unfold wt
    rw [← mul_assoc, ← Real.exp_add, mul_comm]
    congr 2; ring

/-! ### The chunk's operations over the extended reals -/

variable {L : ℕ} (q k v : Fin L → Fin 512 → EReal) (iv b : Fin L → EReal) (bl m : EReal)
  (C : Fin 512 → Fin 512 → EReal) (n : Fin 512 → EReal)

/-- The masked log weight of position `s` at position `t` of the chunk. -/
def logD (t s : Fin L) : EReal := if s ≤ t then b t - b s + iv s else ⊥
/-- The stabiliser of position `t`. -/
def mT (t : Fin L) : EReal := max ((univ : Finset (Fin L)).fold max ⊥ (logD iv b t)) (b t + m)
/-- The weighted score. -/
def sE (t s : Fin L) : EReal := (∑ d, q t d * k s d) * Ideal.exp (logD iv b t s - mT iv b m t)
/-- The decay of the carried memory at position `t`. -/
def dcE (t : Fin L) : EReal := Ideal.exp (b t + m - mT iv b m t)
/-- The numerator. -/
def numE (t : Fin L) (e : Fin 512) : EReal :=
  dcE iv b m t * (∑ d, q t d * C d e) + ∑ s, sE q k iv b m t s * v s e
/-- The denominator. -/
def denE (t : Fin L) : EReal := dcE iv b m t * (∑ d, q t d * n d) + ∑ s, sE q k iv b m t s
/-- The denominator's magnitude, bounded below. -/
def magE (t : Fin L) : EReal :=
  max (max (denE q k iv b m n t) (-denE q k iv b m n t)) (Ideal.exp (-mT iv b m t))
/-- The stabiliser after the chunk. -/
def mN : EReal := max (bl + m) ((univ : Finset (Fin L)).fold max ⊥ fun s => bl - b s + iv s)
/-- The weight a position enters the memory with. -/
def wE (s : Fin L) : EReal := Ideal.exp (bl - b s + iv s - mN iv b bl m)
/-- The decay of the carried memory over the chunk. -/
def crE : EReal := Ideal.exp (bl + m - mN iv b bl m)

/-- The chunk of length `L` starting at position `T` holds real data. -/
structure Chunk (T : ℕ) : Prop where
  hq : ∀ t d, q t d = (Q (T + t) d : EReal)
  hk : ∀ t d, k t d = (K (T + t) d : EReal)
  hv : ∀ t d, v t d = (V (T + t) d : EReal)
  hi : ∀ t, iv t = (I (T + t) : EReal)
  hb : ∀ t : Fin L, b t = ((S G (T + t + 1) - S G T : ℝ) : EReal)
  hbl : bl = ((S G (T + L) - S G T : ℝ) : EReal)

/-- The carried memories after `T` positions, for some real stabiliser. -/
def State (T : ℕ) : Prop := ∃ μ : ℝ, m = (μ : EReal)
  ∧ (∀ d e, C d e = ((Real.exp (-μ) * Cst K V I G T d e : ℝ) : EReal))
  ∧ ∀ d, n d = ((Real.exp (-μ) * Nst K I G T d : ℝ) : EReal)

/-- The zero memories are those before the first position. -/
theorem state_zero : State K V I G 0 (fun _ _ => 0) (fun _ => 0) 0 :=
  ⟨0, by simp, fun d e => by simp [Cst], fun d => by simp [Nst]⟩

variable {Q K V I G q k v iv b bl m C n} {T : ℕ}

theorem isReal_mT (hc : Chunk Q K V I G q k v iv b bl T) (hs : State K V I G m C n T) (t : Fin L) :
    IsReal (mT iv b m t) := by
  obtain ⟨μ, hm, -, -⟩ := hs
  have hb : ∀ t, IsReal (b t) := fun t => ⟨_, hc.hb t⟩
  have hi : ∀ t, IsReal (iv t) := fun t => ⟨_, hc.hi t⟩
  refine isReal_max (isReal_fold _ (fun s => ?_) t ?_) (isReal_add (hb t) ⟨μ, hm⟩)
  · unfold logD
    split_ifs
    · exact Or.inr (isReal_add (isReal_sub (hb t) (hb s)) (hi s))
    · exact Or.inl rfl
  · unfold logD
    rw [if_pos le_rfl]
    exact isReal_add (isReal_sub (hb t) (hb t)) (hi t)

theorem isReal_mN (hL : 0 < L) (hc : Chunk Q K V I G q k v iv b bl T) (hs : State K V I G m C n T) :
    IsReal (mN iv b bl m) := by
  obtain ⟨μ, hm, -, -⟩ := hs
  have hb : ∀ t, IsReal (b t) := fun t => ⟨_, hc.hb t⟩
  have hi : ∀ t, IsReal (iv t) := fun t => ⟨_, hc.hi t⟩
  have hbl : IsReal bl := ⟨_, hc.hbl⟩
  have hg : ∀ s, IsReal (bl - b s + iv s) := fun s => isReal_add (isReal_sub hbl (hb s)) (hi s)
  exact isReal_max (isReal_add hbl ⟨μ, hm⟩) (isReal_fold _ (fun s => Or.inr (hg s)) ⟨0, hL⟩ (hg _))

/-- A score, weighted, at real data. -/
theorem sE_real (hc : Chunk Q K V I G q k v iv b bl T) (t s : Fin L) {mt : ℝ} (hmt : mT iv b m t = (mt : EReal)) :
    sE q k iv b m t s = ((qk Q K (T + t) (T + s) * (if s ≤ t then Real.exp ((S G (T + t + 1) - S G T) - (S G (T + s + 1) - S G T) + I (T + s) - mt) else 0) : ℝ) : EReal) := by
  unfold sE logD qk
  rw [hmt, EReal.coe_mul, coe_sum]
  refine congrArg₂ (· * ·) ?_ ?_
  · exact Finset.sum_congr rfl fun d _ => by rw [hc.hq, hc.hk, EReal.coe_mul]
  · split_ifs with h
    · rw [hc.hb, hc.hb, hc.hi, ← EReal.coe_sub, ← EReal.coe_add, ← EReal.coe_sub, Ideal.exp_coe]
    · rw [EReal.bot_sub, EReal.coe_zero]; rfl

theorem dcE_real (hc : Chunk Q K V I G q k v iv b bl T) (t : Fin L) {mt μ : ℝ} (hmt : mT iv b m t = (mt : EReal))
    (hm : m = (μ : EReal)) :
    dcE iv b m t = ((Real.exp (S G (T + t + 1) - S G T + μ - mt) : ℝ) : EReal) := by
  unfold dcE
  rw [hmt, hm, hc.hb, ← EReal.coe_add, ← EReal.coe_sub, Ideal.exp_coe]

/-- The numerator at real data. -/
theorem numE_real (hc : Chunk Q K V I G q k v iv b bl T) (hs : State K V I G m C n T) (t : Fin L) (e : Fin 512) {mt : ℝ}
    (hmt : mT iv b m t = (mt : EReal)) :
    numE q k v iv b m C t e = ((Real.exp (-mt) * Nt Q K V I G (T + t) e : ℝ) : EReal) := by
  obtain ⟨μ, hm, hC, -⟩ := hs
  unfold numE Nt
  rw [dcE_real hc t hmt hm, ← split_sum I G T L t (fun s => qk Q K (T + t) s * V s e) mt, EReal.coe_add, coe_sum]
  congr 1
  · have e1 : ∑ d, q t d * C d e = ((∑ d, Q (T + t) d * (Real.exp (-μ) * Cst K V I G T d e) : ℝ) : EReal) := by
      rw [coe_sum]
      exact Finset.sum_congr rfl fun d _ => by rw [hc.hq, hC, ← EReal.coe_mul]
    rw [e1, ← EReal.coe_mul]
    congr 1
    have e2 : ∑ d, Q (T + t) d * (Real.exp (-μ) * Cst K V I G T d e)
        = Real.exp (-μ) * ∑ s ∈ range T, wt I G T s * (qk Q K (T + t) s * V s e) := by
      unfold Cst qk
      simp only [Finset.mul_sum, Finset.sum_mul]
      rw [Finset.sum_comm]
      exact Finset.sum_congr rfl fun s _ => Finset.sum_congr rfl fun d _ => by ring
    rw [e2, ← mul_assoc, ← Real.exp_add]
    congr 2; ring
  · exact Finset.sum_congr rfl fun s _ => by
      rw [sE_real hc t s hmt, hc.hv, ← EReal.coe_mul]
      congr 1; ring

/-- The denominator at real data. -/
theorem denE_real (hc : Chunk Q K V I G q k v iv b bl T) (hs : State K V I G m C n T) (t : Fin L) {mt : ℝ}
    (hmt : mT iv b m t = (mt : EReal)) :
    denE q k iv b m n t = ((Real.exp (-mt) * Dt Q K I G (T + t) : ℝ) : EReal) := by
  obtain ⟨μ, hm, -, hn⟩ := hs
  unfold denE Dt
  rw [dcE_real hc t hmt hm, ← split_sum I G T L t (fun s => qk Q K (T + t) s) mt, EReal.coe_add, coe_sum]
  congr 1
  · have e1 : ∑ d, q t d * n d = ((∑ d, Q (T + t) d * (Real.exp (-μ) * Nst K I G T d) : ℝ) : EReal) := by
      rw [coe_sum]
      exact Finset.sum_congr rfl fun d _ => by rw [hc.hq, hn, ← EReal.coe_mul]
    rw [e1, ← EReal.coe_mul]
    congr 1
    have e2 : ∑ d, Q (T + t) d * (Real.exp (-μ) * Nst K I G T d)
        = Real.exp (-μ) * ∑ s ∈ range T, wt I G T s * qk Q K (T + t) s := by
      unfold Nst qk
      simp only [Finset.mul_sum]
      rw [Finset.sum_comm]
      exact Finset.sum_congr rfl fun s _ => Finset.sum_congr rfl fun d _ => by ring
    rw [e2, ← mul_assoc, ← Real.exp_add]
    congr 2; ring
  · exact Finset.sum_congr rfl fun s _ => by rw [sE_real hc t s hmt]

/-- The bounded denominator at real data. -/
theorem magE_real (hc : Chunk Q K V I G q k v iv b bl T) (hs : State K V I G m C n T) (t : Fin L) {mt : ℝ}
    (hmt : mT iv b m t = (mt : EReal)) :
    magE q k iv b m n t = ((Real.exp (-mt) * max |Dt Q K I G (T + t)| 1 : ℝ) : EReal) := by
  unfold magE
  rw [denE_real hc hs t hmt, hmt, ← EReal.coe_neg, ← EReal.coe_neg, Ideal.exp_coe,
    ← EReal.coe_strictMono.monotone.map_max, ← EReal.coe_strictMono.monotone.map_max]
  congr 1
  rw [← abs_eq_max_neg, abs_mul, abs_of_pos (Real.exp_pos _), mul_max_of_nonneg _ _ (Real.exp_pos _).le, mul_one]

/-- The cell's output, dividing by the bounded denominator. -/
theorem out_div (hc : Chunk Q K V I G q k v iv b bl T) (hs : State K V I G m C n T) (t : Fin L) (e : Fin 512) :
    Ideal.div (numE q k v iv b m C t e) (magE q k iv b m n t) = ((hout Q K V I G (T + t) e : ℝ) : EReal) := by
  obtain ⟨mt, hmt⟩ := isReal_mT hc hs t
  have hp : 0 < max |Dt Q K I G (T + t)| 1 := lt_of_lt_of_le one_pos (le_max_right _ _)
  have hne : Real.exp (-mt) * max |Dt Q K I G (T + t)| 1 ≠ 0 := (mul_pos (Real.exp_pos _) hp).ne'
  rw [numE_real hc hs t e hmt, magE_real hc hs t hmt, Ideal.div_coe hne, ← EReal.coe_mul]
  congr 1
  unfold hout
  have := (Real.exp_pos (-mt)).ne'
  field_simp

/-- The cell's output, multiplying by the reciprocal of the bounded denominator. -/
theorem out_mul (hc : Chunk Q K V I G q k v iv b bl T) (hs : State K V I G m C n T) (t : Fin L) (e : Fin 512) :
    numE q k v iv b m C t e * Ideal.div 1 (magE q k iv b m n t) = ((hout Q K V I G (T + t) e : ℝ) : EReal) := by
  obtain ⟨mt, hmt⟩ := isReal_mT hc hs t
  have hp : 0 < max |Dt Q K I G (T + t)| 1 := lt_of_lt_of_le one_pos (le_max_right _ _)
  have hne : Real.exp (-mt) * max |Dt Q K I G (T + t)| 1 ≠ 0 := (mul_pos (Real.exp_pos _) hp).ne'
  rw [← out_div hc hs t e, magE_real hc hs t hmt, Ideal.div_coe hne, Ideal.div_coe hne, one_mul]

theorem wE_real (hc : Chunk Q K V I G q k v iv b bl T) (s : Fin L) {m' : ℝ} (hm' : mN iv b bl m = (m' : EReal)) :
    wE iv b bl m s = ((Real.exp ((S G (T + L) - S G T) - (S G (T + s + 1) - S G T) + I (T + s) - m') : ℝ) : EReal) := by
  unfold wE
  rw [hm', hc.hb, hc.hbl, hc.hi, ← EReal.coe_sub, ← EReal.coe_add, ← EReal.coe_sub, Ideal.exp_coe]

theorem crE_real (hc : Chunk Q K V I G q k v iv b bl T) {m' μ : ℝ} (hm' : mN iv b bl m = (m' : EReal)) (hm : m = (μ : EReal)) :
    crE iv b bl m = ((Real.exp (S G (T + L) - S G T + μ - m') : ℝ) : EReal) := by
  unfold crE
  rw [hm', hm, hc.hbl, ← EReal.coe_add, ← EReal.coe_sub, Ideal.exp_coe]

/-- The memories after the chunk, the values weighted first. -/
theorem state_step (hL : 0 < L) (hc : Chunk Q K V I G q k v iv b bl T) (hs : State K V I G m C n T) :
    State K V I G (mN iv b bl m)
      (fun d e => crE iv b bl m * C d e + ∑ s, k s d * (v s e * wE iv b bl m s))
      (fun d => crE iv b bl m * n d + ∑ s, k s d * wE iv b bl m s) (T + L) := by
  obtain ⟨m', hm'⟩ := isReal_mN hL hc hs
  obtain ⟨μ, hm, hC, hn⟩ := hs
  refine ⟨m', hm', fun d e => ?_, fun d => ?_⟩
  · show crE iv b bl m * C d e + ∑ s, k s d * (v s e * wE iv b bl m s) = _
    unfold Cst
    rw [crE_real hc hm' hm, hC, ← split_state I G T L (fun s => K s d * V s e) m', ← EReal.coe_mul, EReal.coe_add, coe_sum]
    congr 1
    · congr 1
      unfold Cst
      rw [← mul_assoc, ← Real.exp_add]
      congr 2; ring
    · exact Finset.sum_congr rfl fun s _ => by
        rw [wE_real hc s hm', hc.hk, hc.hv, ← EReal.coe_mul, ← EReal.coe_mul]
        congr 1; ring
  · show crE iv b bl m * n d + ∑ s, k s d * wE iv b bl m s = _
    unfold Nst
    rw [crE_real hc hm' hm, hn, ← split_state I G T L (fun s => K s d) m', ← EReal.coe_mul, EReal.coe_add, coe_sum]
    congr 1
    · congr 1
      unfold Nst
      rw [← mul_assoc, ← Real.exp_add]
      congr 2; ring
    · exact Finset.sum_congr rfl fun s _ => by
        rw [wE_real hc s hm', hc.hk, ← EReal.coe_mul]

/-- The memories after the chunk, the keys weighted first. -/
theorem state_step' (hL : 0 < L) (hc : Chunk Q K V I G q k v iv b bl T) (hs : State K V I G m C n T) :
    State K V I G (mN iv b bl m)
      (fun d e => crE iv b bl m * C d e + ∑ s, wE iv b bl m s * k s d * v s e)
      (fun d => crE iv b bl m * n d + ∑ s, wE iv b bl m s * k s d) (T + L) := by
  have h := state_step hL hc hs
  have e1 : ∀ s d e, k s d * (v s e * wE iv b bl m s) = wE iv b bl m s * k s d * v s e := fun s d e => by
    rw [mul_comm (v s e), ← mul_assoc, mul_comm (k s d)]
  simpa only [e1, mul_comm (k _ _) (wE _ _ _ _ _)] using h

/-- Log sigmoid as the smaller of the gate and zero, less the logarithm. -/
def lsig (x : ℝ) : ℝ := min x 0 - Real.log (1 + Real.exp (-|x|))

/-- The log forget gate, of a real gate. -/
theorem lsig_min (x : ℝ) :
    min (x : EReal) 0 - Ideal.log (1 + Ideal.exp (0 - max (x : EReal) (-x))) = ((lsig x : ℝ) : EReal) := by
  have h1 : max (x : EReal) (-x) = ((|x| : ℝ) : EReal) := by
    rw [← EReal.coe_neg, ← EReal.coe_strictMono.monotone.map_max, ← abs_eq_max_neg]
  have h2 : (0 : EReal) = ((0 : ℝ) : EReal) := rfl
  have h3 : (1 : EReal) = ((1 : ℝ) : EReal) := rfl
  rw [h1, h2, h3, ← EReal.coe_sub, Ideal.exp_coe, ← EReal.coe_add, Ideal.log_coe, if_neg (not_le.2 (by positivity)),
    ← EReal.coe_strictMono.monotone.map_min, ← EReal.coe_sub, zero_sub]
  rfl

/-- The same, as jax's soft plus of the negated gate, negated. -/
theorem lsig_softplus (x : ℝ) :
    -(max (-(x : EReal)) 0 + Ideal.log1p (Ideal.exp (-max (-(x : EReal) - 0) (-(-(x : EReal) - 0))))) = ((lsig x : ℝ) : EReal) := by
  have h2 : (0 : EReal) = ((0 : ℝ) : EReal) := rfl
  have h3 : (1 : EReal) = ((1 : ℝ) : EReal) := rfl
  unfold Ideal.log1p
  rw [h2, h3, ← EReal.coe_neg, ← EReal.coe_sub, ← EReal.coe_neg, ← EReal.coe_strictMono.monotone.map_max,
    ← EReal.coe_strictMono.monotone.map_max, ← EReal.coe_neg, Ideal.exp_coe, ← EReal.coe_add, Ideal.log_coe,
    if_neg (not_le.2 (by positivity)), ← EReal.coe_add, ← EReal.coe_neg]
  congr 1
  unfold lsig
  rw [sub_zero, ← abs_eq_max_neg, abs_neg]
  have : max (-x) 0 = -min x 0 := by rw [← max_neg_neg, neg_zero]
  rw [this]; ring

end Cert.Mlstm
end
-- ==== Proof.CellHead.lean ====
module
public import proofs.«01_k».proof.Proof.Gen.KernelIdeal.Value
public import proofs.«01_k».proof.Proof.Mlstm
public import Idealize.ShloMosaic.Lib.Pipeline.ValueKit

@[expose] public section
noncomputable section
set_option maxRecDepth 16384

namespace Cert.Cell
open Cert.KernelIdeal Cert.KernelIdeal.Gen Idealize.ShloMosaic Idealize.ShloMosaic.TcCoe Idealize.SL.Sem
open Idealize.ShloMosaic.Pipeline (Dat)
open Cert.Mlstm

/-! The cell of one head, as vectors of a chunk: `bl` the last cumulative gate, `ir` and `br` the rows of the input
gates and cumulative forget gates, `ic` and `bc` the same as columns, `mb` the carried stabiliser. -/

/-- The stabiliser after the chunk. -/
def gMN (bl : FVec Ideal S1x1 .f32) (ir br : FVec Ideal S1x256 .f32) (mb : Vec Ideal S1x1 .f32) : FVec Ideal S1x1 .f32 :=
  maximumf (addf bl mb) (shapeCast S1x1 (multiReduction .maximumf [1] S1
    (addf (subf (broadcastTo S1x256 bl broadcasts_S1x1_S1x256) br) ir) 0xFF800000#32 reduces_S1x256_S1 (.inl rfl) rfl) shapeCasts_S1_S1x1)
/-- The weights the positions enter the memory with. -/
def gW (bl : FVec Ideal S1x1 .f32) (ir br : FVec Ideal S1x256 .f32) (ic bc : FVec Ideal S256x1 .f32) (mb : Vec Ideal S1x1 .f32) :
    FVec Ideal S256x1 .f32 :=
  exp (subf (addf (subf (broadcastTo S256x1 bl broadcasts_S1x1_S256x1) bc) ic)
    (broadcastTo S256x1 (gMN bl ir br mb) broadcasts_S1x1_S256x1))
/-- The decay of the carried memory. -/
def gCr (bl : FVec Ideal S1x1 .f32) (ir br : FVec Ideal S1x256 .f32) (mb : Vec Ideal S1x1 .f32) : FVec Ideal S1x1 .f32 :=
  exp (subf (addf bl mb) (gMN bl ir br mb))
/-- The matrix memory after the chunk. -/
def gC (bl : FVec Ideal S1x1 .f32) (ir br : FVec Ideal S1x256 .f32) (ic bc : FVec Ideal S256x1 .f32) (mb : Vec Ideal S1x1 .f32)
    (k v : Vec Ideal S256x512 .bf16) (C : Vec Ideal S1x512x512 .f32) : FVec Ideal S1x512x512 .f32 :=
  shapeCast S1x512x512 (addf (mulf (broadcastTo S512x512 (gCr bl ir br mb) broadcasts_S1x1_S512x512)
    (shapeCast S512x512 C shapeCasts_S1x512x512_S512x512))
    (matmul (φ₁ := .bf16) dot_S256x512_S256x512_S512x512_0_0_1_1_n_n none k
      (truncf .bf16 (mulf (extf .f32 v bitsLt_bf16_f32 : FVec Ideal S256x512 .f32) (broadcastTo S256x512 (gW bl ir br ic bc mb) broadcasts_S256x1_S256x512)) bitsLt_bf16_f32 : FVec Ideal S256x512 .bf16)
      (constant S512x512 .f32 0x00000000#32))) shapeCasts_S512x512_S1x512x512
/-- The normaliser memory after the chunk. -/
def gN (bl : FVec Ideal S1x1 .f32) (ir br : FVec Ideal S1x256 .f32) (ic bc : FVec Ideal S256x1 .f32) (mb : Vec Ideal S1x1 .f32)
    (k : Vec Ideal S256x512 .bf16) (n : Vec Ideal S1x512 .f32) : FVec Ideal S1x512 .f32 :=
  shapeCast S1x512 (addf (mulf (broadcastTo S1x512 (gCr bl ir br mb) broadcasts_S1x1_S1x512) n)
    (shapeCast S1x512 (multiReduction .add [0] S512 (mulf (extf .f32 k bitsLt_bf16_f32 : FVec Ideal S256x512 .f32)
      (broadcastTo S256x512 (gW bl ir br ic bc mb) broadcasts_S256x1_S256x512)) 0x00000000#32 reduces_S256x512_S512 (.inl rfl) rfl)
      shapeCasts_S512_S1x512)) shapeCasts_S1x512_S1x512

variable {iv b : Fin 256 → EReal} {β μ : EReal} {q k v : Fin 256 → Fin 512 → EReal} {C : Fin 512 → Fin 512 → EReal} {n : Fin 512 → EReal}

/-- The word of −∞ reads as −∞. -/
theorem ofBits_ninf : Ideal.ofBits .f32 4286578688#32 = ⊥ := by simp [Ideal.ofBits, Ideal.ieee]

theorem mask_sel (t s : Fin 256) (x y : EReal) :
    Scalar.select (IntOp.cmpi .sge (BitVec.ofNat 32 (t : ℕ)) (BitVec.ofNat 32 (s : ℕ))) x y = if s ≤ t then x else y := by
  rw [WordCmp.cmpi_sge_ofNat (by have := t.isLt; omega) (by have := s.isLt; omega)]
  by_cases h : s ≤ t
  · simp [Scalar.select, h, Fin.le_def.1 h]
  · simp [Scalar.select, h, mt Fin.le_def.2 h]

/-- A head's rows and columns hold the gates. -/
structure Gates (iv b : Fin 256 → EReal) (β μ : EReal) (bl : FVec Ideal S1x1 .f32) (ir br : FVec Ideal S1x256 .f32)
    (ic bc : FVec Ideal S256x1 .f32) (mb : Vec Ideal S1x1 .f32) : Prop where
  ir : ∀ s, ir (ix2 (0 : Fin 1) s) = iv s
  br : ∀ s, br (ix2 (0 : Fin 1) s) = b s
  ic : ∀ s, ic (ix2 s (0 : Fin 1)) = iv s
  bc : ∀ s, bc (ix2 s (0 : Fin 1)) = b s
  bl : bl (ix2 (0 : Fin 1) (0 : Fin 1)) = β
  mb : mb (ix2 (0 : Fin 1) (0 : Fin 1)) = μ

variable {bl : FVec Ideal S1x1 .f32} {ir br : FVec Ideal S1x256 .f32} {ic bc : FVec Ideal S256x1 .f32} {mb : Vec Ideal S1x1 .f32}

/-- The stabiliser after the chunk, entry by entry. -/
theorem gMN_at (h : Gates iv b β μ bl ir br ic bc mb) : gMN bl ir br mb (ix2 (0 : Fin 1) (0 : Fin 1)) = mN iv b β μ := by
  unfold mN
  pointwise [gMN]
  simp only [ofBits_ninf, h.ir, h.br, h.bl, h.mb]

theorem logD_at (h : Gates iv b β μ bl ir br ic bc mb) (t s : Fin 256) :
    k0_pay13 k0_pay5 ir br bc (ix2 t s) = logD iv b t s := by
  unfold logD
  pointwise [k0_pay13, k0_pay5]
  rw [ofBits_ninf, h.ir, h.br, h.bc]
  exact mask_sel t s _ _

theorem mT_at (h : Gates iv b β μ bl ir br ic bc mb) (t : Fin 256) :
    k0_pay15 k0_pay5 ir br bc mb (ix2 t (0 : Fin 1)) = mT iv b μ t := by
  unfold mT
  pointwise [k0_pay15, k0_pay14]
  simp only [ofBits_ninf, logD_at h, h.bc, h.mb]

theorem gW_at (h : Gates iv b β μ bl ir br ic bc mb) (s : Fin 256) :
    gW bl ir br ic bc mb (ix2 s (0 : Fin 1)) = wE iv b β μ s := by
  unfold wE
  pointwise [gW]
  simp only [h.ic, h.bc, h.bl, gMN_at h]

theorem gCr_at (h : Gates iv b β μ bl ir br ic bc mb) : gCr bl ir br mb (ix2 (0 : Fin 1) (0 : Fin 1)) = crE iv b β μ := by
  unfold crE
  pointwise [gCr]
  simp only [h.bl, h.mb, gMN_at h]

variable {qa ka va : Vec Ideal S256x512 .bf16} {Ca : Vec Ideal S1x512x512 .f32} {na : Vec Ideal S1x512 .f32}

theorem gC_at (h : Gates iv b β μ bl ir br ic bc mb) (hk : ∀ s e, ka (ix2 s e) = k s e) (hv : ∀ s e, va (ix2 s e) = v s e)
    (hC : ∀ d e, Ca (ix3 (0 : Fin 1) d e) = C d e) (d e : Fin 512) :
    gC bl ir br ic bc mb ka va Ca (ix3 (0 : Fin 1) d e) = crE iv b β μ * C d e + ∑ s, k s d * (v s e * wE iv b β μ s) := by
  pointwise [gC]
  simp only [gCr_at h, gW_at h, hk, hv, hC]

theorem gN_at (h : Gates iv b β μ bl ir br ic bc mb) (hk : ∀ s e, ka (ix2 s e) = k s e)
    (hn : ∀ d, na (ix2 (0 : Fin 1) d) = n d) (d : Fin 512) :
    gN bl ir br ic bc mb ka na (ix2 (0 : Fin 1) d) = crE iv b β μ * n d + ∑ s, k s d * wE iv b β μ s := by
  pointwise [gN]
  simp only [gCr_at h, gW_at h, hk, hn]

theorem sE_at (h : Gates iv b β μ bl ir br ic bc mb) (hq : ∀ s e, qa (ix2 s e) = q s e) (hk : ∀ s e, ka (ix2 s e) = k s e)
    (t s : Fin 256) : k0_pay16 k0_pay5 qa ka ir br bc mb (ix2 t s) = sE q k iv b μ t s := by
  unfold sE
  pointwise [k0_pay16]
  simp only [logD_at h, mT_at h, hq, hk]

theorem dcE_at (h : Gates iv b β μ bl ir br ic bc mb) (t : Fin 256) :
    k0_pay17 k0_pay5 ir br bc mb (ix2 t (0 : Fin 1)) = dcE iv b μ t := by
  unfold dcE
  pointwise [k0_pay17, k0_pay14]
  simp only [mT_at h, h.bc, h.mb]

theorem numE_at (h : Gates iv b β μ bl ir br ic bc mb) (hq : ∀ s e, qa (ix2 s e) = q s e) (hk : ∀ s e, ka (ix2 s e) = k s e)
    (hv : ∀ s e, va (ix2 s e) = v s e) (hC : ∀ d e, Ca (ix3 (0 : Fin 1) d e) = C d e) (t : Fin 256) (e : Fin 512) :
    k0_pay18 k0_pay5 qa ka va ir br bc mb Ca (ix2 t e) = numE q k v iv b μ C t e := by
  unfold numE
  pointwise [k0_pay18]
  simp only [dcE_at h, sE_at h hq hk, hq, hk, hv, hC]

theorem magE_at (h : Gates iv b β μ bl ir br ic bc mb) (hq : ∀ s e, qa (ix2 s e) = q s e) (hk : ∀ s e, ka (ix2 s e) = k s e)
    (hn : ∀ d, na (ix2 (0 : Fin 1) d) = n d) (t : Fin 256) :
    k0_pay19 k0_pay5 qa ka ir br bc mb na (ix2 t (0 : Fin 1)) = magE q k iv b μ n t := by
  unfold magE denE
  pointwise [k0_pay19]
  simp only [dcE_at h, sE_at h hq hk, mT_at h, hq, hk, hn, zero_sub]
  rfl

/-- The head's output before its gate. -/
def gH (ir br : FVec Ideal S1x256 .f32) (bc : FVec Ideal S256x1 .f32) (mb : Vec Ideal S1x1 .f32)
    (q k v : Vec Ideal S256x512 .bf16) (C : Vec Ideal S1x512x512 .f32) (n : Vec Ideal S1x512 .f32) : FVec Ideal S256x512 .f32 :=
  k0_pay20 (k0_pay18 k0_pay5 q k v ir br bc mb C) (k0_pay19 k0_pay5 q k ir br bc mb n) (FloatOps.ofBits FTy.f32 1065353216#32)

theorem gH_at (h : Gates iv b β μ bl ir br ic bc mb) (hq : ∀ s e, qa (ix2 s e) = q s e) (hk : ∀ s e, ka (ix2 s e) = k s e)
    (hv : ∀ s e, va (ix2 s e) = v s e) (hC : ∀ d e, Ca (ix3 (0 : Fin 1) d e) = C d e)
    (hn : ∀ d, na (ix2 (0 : Fin 1) d) = n d) (t : Fin 256) (e : Fin 512) :
    gH ir br bc mb qa ka va Ca na (ix2 t e) = numE q k v iv b μ C t e * Ideal.div 1 (magE q k iv b μ n t) := by
  pointwise [gH, k0_pay20]
  simp only [numE_at h hq hk hv hC, magE_at h hq hk hn]

/-- The gate, the normalisation over the head, the skip and the second gate, of a head's output row. -/
def tail (hc o : Fin 512 → EReal) (w sk xc z : Fin 512 → EReal) (e : Fin 512) : EReal :=
  let g : Fin 512 → EReal := fun e => Ideal.div 1 (1 + Ideal.exp (0 - o e)) * hc e
  let cen : Fin 512 → EReal := fun e => g e - Ideal.div (∑ e, g e) (Ideal.ofBits .f32 0x44000000#32)
  (cen e * Ideal.rsqrt (Ideal.div (∑ e, cen e * cen e) (Ideal.ofBits .f32 0x44000000#32) + Ideal.ofBits .f32 0x358637BD#32) * w e + sk e * xc e)
    * (z e * Ideal.div 1 (1 + Ideal.exp (0 - z e)))

theorem tail_at (H : FVec Ideal S256x512 .f32) (o : Vec Ideal S256x512 .f32) (w sk : Vec Ideal S1x512 .f32) (xc : Vec Ideal S256x512 .bf16)
    (z : Vec Ideal S256x512 .f32) (t : Fin 256) (e : Fin 512) :
    k0_pay29 (k0_pay28 H o w sk xc) z (ix2 t e) = tail (fun e => H (ix2 t e)) (fun e => o (ix2 t e)) (fun e => w (ix2 (0 : Fin 1) e))
      (fun e => sk (ix2 (0 : Fin 1) e)) (fun e => xc (ix2 t e)) (fun e => z (ix2 t e)) e := by
  unfold tail
  pointwise [k0_pay29, k0_pay28]
end Cert.Cell
end
-- ==== Proof.CellKernel.lean ====
module
public import proofs.«01_k».proof.Proof.CellHead
public import Idealize.ShloMosaic.Lib.Pipeline.ReadBack

@[expose] public section
noncomputable section
set_option maxRecDepth 16384

namespace Cert.Cell
open Cert.KernelIdeal Cert.KernelIdeal.Gen Idealize.ShloMosaic Idealize.ShloMosaic.TcCoe Idealize.SL.Sem
open Idealize.ShloMosaic.Pipeline (Dat)
open Cert.Mlstm

/-- Column `e` of head `h`. -/
def col (h : Fin 4) (e : Fin 512) : Fin 2048 := ⟨512 * h.val + e.val, by have := h.isLt; have := e.isLt; omega⟩
/-- The row of head `h` in a memory of eight rows. -/
def row8 (h : Fin 4) : Fin 8 := ⟨h.val, by have := h.isLt; omega⟩
/-- The column of head `h`'s input gate. -/
def gi (h : Fin 4) : Fin 128 := ⟨h.val, by have := h.isLt; omega⟩
/-- The column of head `h`'s forget gate. -/
def gf (h : Fin 4) : Fin 128 := ⟨4 + h.val, by have := h.isLt; omega⟩
/-- The input gates of head `h`. -/
def ivh (X : Vec Ideal S256x128 .f32) (h : Fin 4) (s : Fin 256) : EReal := X (ix2 s (gi h))
/-- The cumulative forget gates of head `h`. -/
def bh (X : Vec Ideal S256x128 .f32) (h : Fin 4) (s : Fin 256) : EReal := k0_pay6 (F := Ideal) X (ix2 s (gf h))
/-- The last cumulative forget gate of head `h`. -/
def blh (X : Vec Ideal S256x128 .f32) (h : Fin 4) : EReal := k0_pay6 (F := Ideal) X (ix2 (255 : Fin 256) (gf h))
/-- A head's rows of a block of keys, queries or values. -/
def hd (X : Vec Ideal S256x2048 .bf16) (h : Fin 4) (s : Fin 256) (e : Fin 512) : EReal := X (ix2 s (col h e))

theorem gates0 (X : Vec Ideal S256x128 .f32) (mb : Vec Ideal S1x1 .f32) {μ : EReal} (hmb : mb (ix2 (0 : Fin 1) (0 : Fin 1)) = μ) :
    Gates (ivh X 0) (bh X 0) (blh X 0) μ (k0_pay21 (k0_pay6 X)) (k0_pay9 X) (k0_pay10 X) (k0_pay11 X) (k0_pay12 X) mb where
  ir s := by unfold ivh; pointwise [k0_pay9, k0_pay7]; blk_ext <;> rfl
  br s := by unfold bh; pointwise [k0_pay10, k0_pay8]; blk_ext <;> rfl
  ic s := by unfold ivh; pointwise [k0_pay11]; blk_ext <;> rfl
  bc s := by unfold bh; pointwise [k0_pay12]; blk_ext <;> rfl
  bl := by unfold blh; pointwise [k0_pay21]; blk_ext <;> rfl
  mb := hmb

theorem gates1 (X : Vec Ideal S256x128 .f32) (mb : Vec Ideal S1x1 .f32) {μ : EReal} (hmb : mb (ix2 (0 : Fin 1) (0 : Fin 1)) = μ) :
    Gates (ivh X 1) (bh X 1) (blh X 1) μ (k0_pay40 (k0_pay6 X)) (k0_pay30 (k0_pay7 X)) (k0_pay31 (k0_pay8 X)) (k0_pay32 X) (k0_pay33 (k0_pay6 X)) mb where
  ir s := by unfold ivh; pointwise [k0_pay30, k0_pay7]; blk_ext <;> rfl
  br s := by unfold bh; pointwise [k0_pay31, k0_pay8]; blk_ext <;> rfl
  ic s := by unfold ivh; pointwise [k0_pay32]; blk_ext <;> rfl
  bc s := by unfold bh; pointwise [k0_pay33]; blk_ext <;> rfl
  bl := by unfold blh; pointwise [k0_pay40]; blk_ext <;> rfl
  mb := hmb

theorem gates2 (X : Vec Ideal S256x128 .f32) (mb : Vec Ideal S1x1 .f32) {μ : EReal} (hmb : mb (ix2 (0 : Fin 1) (0 : Fin 1)) = μ) :
    Gates (ivh X 2) (bh X 2) (blh X 2) μ (k0_pay65 (k0_pay6 X)) (k0_pay52 (k0_pay7 X)) (k0_pay53 (k0_pay8 X)) (k0_pay54 X) (k0_pay55 (k0_pay6 X)) mb where
  ir s := by unfold ivh; pointwise [k0_pay52, k0_pay7]; blk_ext <;> rfl
  br s := by unfold bh; pointwise [k0_pay53, k0_pay8]; blk_ext <;> rfl
  ic s := by unfold ivh; pointwise [k0_pay54]; blk_ext <;> rfl
  bc s := by unfold bh; pointwise [k0_pay55]; blk_ext <;> rfl
  bl := by unfold blh; pointwise [k0_pay65]; blk_ext <;> rfl
  mb := hmb

theorem gates3 (X : Vec Ideal S256x128 .f32) (mb : Vec Ideal S1x1 .f32) {μ : EReal} (hmb : mb (ix2 (0 : Fin 1) (0 : Fin 1)) = μ) :
    Gates (ivh X 3) (bh X 3) (blh X 3) μ (k0_pay86 (k0_pay6 X)) (k0_pay76 (k0_pay7 X)) (k0_pay77 (k0_pay8 X)) (k0_pay78 X) (k0_pay79 (k0_pay6 X)) mb where
  ir s := by unfold ivh; pointwise [k0_pay76, k0_pay7]; blk_ext <;> rfl
  br s := by unfold bh; pointwise [k0_pay77, k0_pay8]; blk_ext <;> rfl
  ic s := by unfold ivh; pointwise [k0_pay78]; blk_ext <;> rfl
  bc s := by unfold bh; pointwise [k0_pay79]; blk_ext <;> rfl
  bl := by unfold blh; pointwise [k0_pay86]; blk_ext <;> rfl
  mb := hmb

section Peel
variable {s : Shape} {φ : EltTy}

theorem canon_skip (off size : Fin s.rank → ℕ) (inb : ∀ a, off a + size a ≤ s.size a) (w : (Rect.unit off size inb).shape.Idx → Elt Ideal φ)
    (L : List (View.Piece (Elt Ideal) s φ)) (y : s.Idx) (a : Fin s.rank) (ha : (y a).val < off a ∨ off a + size a ≤ (y a).val) :
    View.canon (⟨Rect.unit off size inb, w⟩ :: L) y = View.canon L y :=
  View.canon_cons_of_not_mem _ _ fun hy => by
    rw [Rect.mem_set_unit] at hy
    have := hy a
    omega

theorem canon_hit (off size : Fin s.rank → ℕ) (inb : ∀ a, off a + size a ≤ s.size a) (w : (Rect.unit off size inb).shape.Idx → Elt Ideal φ)
    (L : List (View.Piece (Elt Ideal) s φ)) (y : s.Idx) (x : (Rect.unit off size inb).shape.Idx) (hx : ∀ a, (y a).val = off a + (x a).val) :
    View.canon (⟨Rect.unit off size inb, w⟩ :: L) y = w x := by
  have hy : (Rect.unit off size inb).emb x = y := funext fun a => Fin.ext (by
    show off a + 1 * (x a).val = (y a).val
    rw [hx a, Nat.one_mul])
  rw [← hy]; exact View.canon_cons_emb _ _ _ _
end Peel

/-- Four slices of a memory of four heads, read at a head. -/
theorem canon_slices (w0 w1 w2 w3 : Vec Ideal S1x512x512 .f32) (L : List (View.Piece (Elt Ideal) S4x512x512 .f32)) (p : Fin 4) (d e : Fin 512) :
    View.canon (⟨Rect.unit ![3, 0, 0] ![1, 512, 512] inb_S4x512x512_S1x512x512_3_0_0, w3⟩ ::
      ⟨Rect.unit ![2, 0, 0] ![1, 512, 512] inb_S4x512x512_S1x512x512_2_0_0, w2⟩ ::
      ⟨Rect.unit ![1, 0, 0] ![1, 512, 512] inb_S4x512x512_S1x512x512_1_0_0, w1⟩ ::
      ⟨Rect.unit ![0, 0, 0] ![1, 512, 512] inb_S4x512x512_S1x512x512_0_0_0, w0⟩ :: L) (ix3 p d e) = ![w0, w1, w2, w3] p (ix3 (0 : Fin 1) d e) := by
  have hit : ∀ (k : ℕ) (q : Fin 4), q.val = k → ∀ a : Fin 3, ((ix3 q d e : S4x512x512.Idx) a).val = (![k, 0, 0] : Fin 3 → ℕ) a + ((ix3 (0 : Fin 1) d e : S1x512x512.Idx) a).val := by
    intro k q hq a; fin_cases a <;> simp [hq]
  fin_cases p
  · refine (canon_skip _ _ _ _ _ _ (0 : Fin 3) (Or.inl (by simp))).trans ((canon_skip _ _ _ _ _ _ (0 : Fin 3) (Or.inl (by simp))).trans ((canon_skip _ _ _ _ _ _ (0 : Fin 3) (Or.inl (by simp))).trans (canon_hit _ _ _ _ _ _ _ (hit 0 0 rfl))))
  · refine (canon_skip _ _ _ _ _ _ (0 : Fin 3) (Or.inl (by simp))).trans ((canon_skip _ _ _ _ _ _ (0 : Fin 3) (Or.inl (by simp))).trans (canon_hit _ _ _ _ _ _ _ (hit 1 1 rfl)))
  · refine (canon_skip _ _ _ _ _ _ (0 : Fin 3) (Or.inl (by simp))).trans (canon_hit _ _ _ _ _ _ _ (hit 2 2 rfl))
  · exact canon_hit _ _ _ _ _ _ _ (hit 3 3 rfl)

/-- Four rows of a memory of eight rows, read at a head's row. -/
theorem canon_rows (W : ℕ) (i0 i1 i2 i3) (w0 w1 w2 w3 : Vec Ideal (⟨2, ![1, W]⟩ : Shape) .f32) (L : List (View.Piece (Elt Ideal) (⟨2, ![8, W]⟩ : Shape) .f32)) (p : Fin 4) (d : Fin W) :
    View.canon (⟨Rect.unit (s := ⟨2, ![8, W]⟩) ![3, 0] ![1, W] i3, w3⟩ ::
      ⟨Rect.unit (s := ⟨2, ![8, W]⟩) ![2, 0] ![1, W] i2, w2⟩ ::
      ⟨Rect.unit (s := ⟨2, ![8, W]⟩) ![1, 0] ![1, W] i1, w1⟩ ::
      ⟨Rect.unit (s := ⟨2, ![8, W]⟩) ![0, 0] ![1, W] i0, w0⟩ :: L) (ix2 (row8 p) d) = ![w0, w1, w2, w3] p (ix2 (0 : Fin 1) d) := by
  have hit : ∀ (k : ℕ) (q : Fin 4), q.val = k → ∀ a : Fin 2, ((ix2 (row8 q) d : (⟨2, ![8, W]⟩ : Shape).Idx) a).val = (![k, 0] : Fin 2 → ℕ) a + ((ix2 (0 : Fin 1) d : (⟨2, ![1, W]⟩ : Shape).Idx) a).val := by
    intro k q hq a; fin_cases a <;> simp [hq, row8]
  fin_cases p
  · refine (canon_skip _ _ _ _ _ _ (0 : Fin 2) (Or.inl (by simp [row8]))).trans ((canon_skip _ _ _ _ _ _ (0 : Fin 2) (Or.inl (by simp [row8]))).trans ((canon_skip _ _ _ _ _ _ (0 : Fin 2) (Or.inl (by simp [row8]))).trans (canon_hit _ _ _ _ _ _ _ (hit 0 0 rfl))))
  · refine (canon_skip _ _ _ _ _ _ (0 : Fin 2) (Or.inl (by simp [row8]))).trans ((canon_skip _ _ _ _ _ _ (0 : Fin 2) (Or.inl (by simp [row8]))).trans (canon_hit _ _ _ _ _ _ _ (hit 1 1 rfl)))
  · refine (canon_skip _ _ _ _ _ _ (0 : Fin 2) (Or.inl (by simp [row8]))).trans (canon_hit _ _ _ _ _ _ _ (hit 2 2 rfl))
  · exact canon_hit _ _ _ _ _ _ _ (hit 3 3 rfl)

/-- The same over what the memory held before. -/
theorem read_rows (W : ℕ) {sig : RefSig} {κ : Kind} {sp : Space} (v : View sig κ sp (⟨2, ![8, W]⟩ : Shape) .f32) (f) (i0 i1 i2 i3) (w0 w1 w2 w3 : Vec Ideal (⟨2, ![1, W]⟩ : Shape) .f32) (p : Fin 4) (d : Fin W) :
    v.read (Elt Ideal) (v.writes (Elt Ideal) f [⟨Rect.unit (s := ⟨2, ![8, W]⟩) ![3, 0] ![1, W] i3, w3⟩,
      ⟨Rect.unit (s := ⟨2, ![8, W]⟩) ![2, 0] ![1, W] i2, w2⟩,
      ⟨Rect.unit (s := ⟨2, ![8, W]⟩) ![1, 0] ![1, W] i1, w1⟩,
      ⟨Rect.unit (s := ⟨2, ![8, W]⟩) ![0, 0] ![1, W] i0, w0⟩]) (ix2 (row8 p) d) = ![w0, w1, w2, w3] p (ix2 (0 : Fin 1) d) := by
  refine (View.read_writes_apply_eq_canon v f _ _ ?_).trans (canon_rows W i0 i1 i2 i3 w0 w1 w2 w3 [] p d)
  have mem : ∀ (k : ℕ) (i) (q : Fin 4), q.val = k → (ix2 (row8 q) d : (⟨2, ![8, W]⟩ : Shape).Idx) ∈ (Rect.unit (s := ⟨2, ![8, W]⟩) ![k, 0] ![1, W] i).set := by
    intro k i q hq
    rw [Rect.mem_set_unit]
    intro a; fin_cases a <;> simp [row8, hq]
  fin_cases p
  · exact ⟨_, .tail _ (.tail _ (.tail _ (.head _))), mem 0 i0 0 rfl⟩
  · exact ⟨_, .tail _ (.tail _ (.head _)), mem 1 i1 1 rfl⟩
  · exact ⟨_, .tail _ (.head _), mem 2 i2 2 rfl⟩
  · exact ⟨_, .head _, mem 3 i3 3 rfl⟩

/-- A head's columns of a block, as a load reads them. -/
theorem ld_hd (X : Vec Ideal S256x2048 .bf16) (p : Fin 4) (o : ℕ) (inb) (ho : o = 512 * p.val) (s : Fin 256) (e : Fin 512) :
    View.ld X (Rect.unit (s := S256x2048) ![0, o] ![256, 512] inb) (ix2 s e) = hd X p s e := by
  subst ho
  exact congrArg X (funext fun a => Fin.ext (by fin_cases a <;> simp [col]))

/-- The matrix memory after a chunk, over the blocks read. -/
def newC (X1 X2 : Vec Ideal S256x2048 .bf16) (X6 : Vec Ideal S256x128 .f32) (C : Vec Ideal S4x512x512 .f32) (M : Vec Ideal S8x128 .f32)
    (h : Fin 4) (d e : Fin 512) : EReal :=
  crE (ivh X6 h) (bh X6 h) (blh X6 h) (M (ix2 (row8 h) (0 : Fin 128))) * C (ix3 h d e)
    + ∑ s, hd X1 h s d * (hd X2 h s e * wE (ivh X6 h) (bh X6 h) (blh X6 h) (M (ix2 (row8 h) (0 : Fin 128))) s)
/-- The normaliser memory after a chunk. -/
def newN (X1 : Vec Ideal S256x2048 .bf16) (X6 : Vec Ideal S256x128 .f32) (N : Vec Ideal S8x512 .f32) (M : Vec Ideal S8x128 .f32)
    (h : Fin 4) (d : Fin 512) : EReal :=
  crE (ivh X6 h) (bh X6 h) (blh X6 h) (M (ix2 (row8 h) (0 : Fin 128))) * N (ix2 (row8 h) d)
    + ∑ s, hd X1 h s d * wE (ivh X6 h) (bh X6 h) (blh X6 h) (M (ix2 (row8 h) (0 : Fin 128))) s
/-- The stabiliser after a chunk. -/
def newM (X6 : Vec Ideal S256x128 .f32) (M : Vec Ideal S8x128 .f32) (h : Fin 4) : EReal :=
  mN (ivh X6 h) (bh X6 h) (blh X6 h) (M (ix2 (row8 h) (0 : Fin 128)))

/-- A head's slice of the matrix memory, as a load reads it. -/
theorem ld_C (C : Vec Ideal S4x512x512 .f32) (p : Fin 4) (o : ℕ) (inb) (ho : o = p.val) (d e : Fin 512) :
    View.ld C (Rect.unit (s := S4x512x512) ![o, 0, 0] ![1, 512, 512] inb) (ix3 (0 : Fin 1) d e) = C (ix3 p d e) := by
  subst ho
  exact congrArg C (funext fun a => Fin.ext (by fin_cases a <;> simp))
/-- A head's row of the normaliser memory, as a load reads it. -/
theorem ld_N (N : Vec Ideal S8x512 .f32) (p : Fin 4) (o : ℕ) (inb) (ho : o = p.val) (d : Fin 512) :
    View.ld N (Rect.unit (s := S8x512) ![o, 0] ![1, 512] inb) (ix2 (0 : Fin 1) d) = N (ix2 (row8 p) d) := by
  subst ho
  exact congrArg N (funext fun a => Fin.ext (by fin_cases a <;> simp [row8]))
/-- A head's stabiliser, as a load reads it. -/
theorem ld_M (M : Vec Ideal S8x128 .f32) (p : Fin 4) (o : ℕ) (inb) (ho : o = p.val) :
    View.ld M (Rect.unit (s := S8x128) ![o, 0] ![1, 1] inb) (ix2 (0 : Fin 1) (0 : Fin 1)) = M (ix2 (row8 p) (0 : Fin 128)) := by
  subst ho
  exact congrArg M (funext fun a => Fin.ext (by fin_cases a <;> simp [row8]))
/-- A head's columns of a block of reals, as a load reads them. -/
theorem ld_f (X : Vec Ideal S256x2048 .f32) (p : Fin 4) (o : ℕ) (inb) (ho : o = 512 * p.val) (s : Fin 256) (e : Fin 512) :
    View.ld X (Rect.unit (s := S256x2048) ![0, o] ![256, 512] inb) (ix2 s e) = X (ix2 s (col p e)) := by
  subst ho
  exact congrArg X (funext fun a => Fin.ext (by fin_cases a <;> simp [col]))
/-- A head's columns of a row, as a load reads them. -/
theorem ld_r (X : Vec Ideal S1x2048 .f32) (p : Fin 4) (o : ℕ) (inb) (ho : o = 512 * p.val) (e : Fin 512) :
    View.ld X (Rect.unit (s := S1x2048) ![0, o] ![1, 512] inb) (ix2 (0 : Fin 1) e) = X (ix2 (0 : Fin 1) (col p e)) := by
  subst ho
  exact congrArg X (funext fun a => Fin.ext (by fin_cases a <;> simp [col]))

section Heads
variable (X0 X1 X2 X3 : Vec Ideal S256x2048 .bf16) (X4 X5 : Vec Ideal S256x2048 .f32) (X6 : Vec Ideal S256x128 .f32) (X7 X8 : Vec Ideal S1x2048 .f32)
  (C : Vec Ideal S4x512x512 .f32) (N : Vec Ideal S8x512 .f32) (M : Vec Ideal S8x128 .f32) (p : Fin 4)

/-- The four heads' new matrix memories. -/
theorem headsC (d e : Fin 512) : (![
    gC (k0_pay21 (k0_pay6 X6)) (k0_pay9 X6) (k0_pay10 X6) (k0_pay11 X6) (k0_pay12 X6) (View.ld M (Rect.unit ![0, 0] ![1, 1] inb_S8x128_S1x1_0_0))
      (View.ld X1 (Rect.unit ![0, 0] ![256, 512] inb_S256x2048_S256x512_0_0)) (View.ld X2 (Rect.unit ![0, 0] ![256, 512] inb_S256x2048_S256x512_0_0)) (View.ld C (Rect.unit ![0, 0, 0] ![1, 512, 512] inb_S4x512x512_S1x512x512_0_0_0)),
    gC (k0_pay40 (k0_pay6 X6)) (k0_pay30 (k0_pay7 X6)) (k0_pay31 (k0_pay8 X6)) (k0_pay32 X6) (k0_pay33 (k0_pay6 X6)) (View.ld M (Rect.unit ![1, 0] ![1, 1] inb_S8x128_S1x1_1_0))
      (View.ld X1 (Rect.unit ![0, 512] ![256, 512] inb_S256x2048_S256x512_0_512)) (View.ld X2 (Rect.unit ![0, 512] ![256, 512] inb_S256x2048_S256x512_0_512)) (View.ld C (Rect.unit ![1, 0, 0] ![1, 512, 512] inb_S4x512x512_S1x512x512_1_0_0)),
    gC (k0_pay65 (k0_pay6 X6)) (k0_pay52 (k0_pay7 X6)) (k0_pay53 (k0_pay8 X6)) (k0_pay54 X6) (k0_pay55 (k0_pay6 X6)) (View.ld M (Rect.unit ![2, 0] ![1, 1] inb_S8x128_S1x1_2_0))
      (View.ld X1 (Rect.unit ![0, 1024] ![256, 512] inb_S256x2048_S256x512_0_1024)) (View.ld X2 (Rect.unit ![0, 1024] ![256, 512] inb_S256x2048_S256x512_0_1024)) (View.ld C (Rect.unit ![2, 0, 0] ![1, 512, 512] inb_S4x512x512_S1x512x512_2_0_0)),
    gC (k0_pay86 (k0_pay6 X6)) (k0_pay76 (k0_pay7 X6)) (k0_pay77 (k0_pay8 X6)) (k0_pay78 X6) (k0_pay79 (k0_pay6 X6)) (View.ld M (Rect.unit ![3, 0] ![1, 1] inb_S8x128_S1x1_3_0))
      (View.ld X1 (Rect.unit ![0, 1536] ![256, 512] inb_S256x2048_S256x512_0_1536)) (View.ld X2 (Rect.unit ![0, 1536] ![256, 512] inb_S256x2048_S256x512_0_1536)) (View.ld C (Rect.unit ![3, 0, 0] ![1, 512, 512] inb_S4x512x512_S1x512x512_3_0_0))] : Fin 4 → Vec Ideal S1x512x512 .f32) p (ix3 (0 : Fin 1) d e) = newC X1 X2 X6 C M p d e := by
  fin_cases p
  · exact gC_at (C := fun d e => C (ix3 (0 : Fin 4) d e)) (gates0 X6 _ (ld_M M 0 0 _ rfl)) (ld_hd X1 0 0 _ rfl) (ld_hd X2 0 0 _ rfl) (ld_C C 0 0 _ rfl) d e
  · exact gC_at (C := fun d e => C (ix3 (1 : Fin 4) d e)) (gates1 X6 _ (ld_M M 1 1 _ rfl)) (ld_hd X1 1 512 _ rfl) (ld_hd X2 1 512 _ rfl) (ld_C C 1 1 _ rfl) d e
  · exact gC_at (C := fun d e => C (ix3 (2 : Fin 4) d e)) (gates2 X6 _ (ld_M M 2 2 _ rfl)) (ld_hd X1 2 1024 _ rfl) (ld_hd X2 2 1024 _ rfl) (ld_C C 2 2 _ rfl) d e
  · exact gC_at (C := fun d e => C (ix3 (3 : Fin 4) d e)) (gates3 X6 _ (ld_M M 3 3 _ rfl)) (ld_hd X1 3 1536 _ rfl) (ld_hd X2 3 1536 _ rfl) (ld_C C 3 3 _ rfl) d e

/-- The four heads' new normaliser memories. -/
theorem headsN (d : Fin 512) : (![
    gN (k0_pay21 (k0_pay6 X6)) (k0_pay9 X6) (k0_pay10 X6) (k0_pay11 X6) (k0_pay12 X6) (View.ld M (Rect.unit ![0, 0] ![1, 1] inb_S8x128_S1x1_0_0))
      (View.ld X1 (Rect.unit ![0, 0] ![256, 512] inb_S256x2048_S256x512_0_0)) (View.ld N (Rect.unit ![0, 0] ![1, 512] inb_S8x512_S1x512_0_0)),
    gN (k0_pay40 (k0_pay6 X6)) (k0_pay30 (k0_pay7 X6)) (k0_pay31 (k0_pay8 X6)) (k0_pay32 X6) (k0_pay33 (k0_pay6 X6)) (View.ld M (Rect.unit ![1, 0] ![1, 1] inb_S8x128_S1x1_1_0))
      (View.ld X1 (Rect.unit ![0, 512] ![256, 512] inb_S256x2048_S256x512_0_512)) (View.ld N (Rect.unit ![1, 0] ![1, 512] inb_S8x512_S1x512_1_0)),
    gN (k0_pay65 (k0_pay6 X6)) (k0_pay52 (k0_pay7 X6)) (k0_pay53 (k0_pay8 X6)) (k0_pay54 X6) (k0_pay55 (k0_pay6 X6)) (View.ld M (Rect.unit ![2, 0] ![1, 1] inb_S8x128_S1x1_2_0))
      (View.ld X1 (Rect.unit ![0, 1024] ![256, 512] inb_S256x2048_S256x512_0_1024)) (View.ld N (Rect.unit ![2, 0] ![1, 512] inb_S8x512_S1x512_2_0)),
    gN (k0_pay86 (k0_pay6 X6)) (k0_pay76 (k0_pay7 X6)) (k0_pay77 (k0_pay8 X6)) (k0_pay78 X6) (k0_pay79 (k0_pay6 X6)) (View.ld M (Rect.unit ![3, 0] ![1, 1] inb_S8x128_S1x1_3_0))
      (View.ld X1 (Rect.unit ![0, 1536] ![256, 512] inb_S256x2048_S256x512_0_1536)) (View.ld N (Rect.unit ![3, 0] ![1, 512] inb_S8x512_S1x512_3_0))] : Fin 4 → Vec Ideal S1x512 .f32) p (ix2 (0 : Fin 1) d) = newN X1 X6 N M p d := by
  fin_cases p
  · exact gN_at (n := fun d => N (ix2 (row8 0) d)) (gates0 X6 _ (ld_M M 0 0 _ rfl)) (ld_hd X1 0 0 _ rfl) (ld_N N 0 0 _ rfl) d
  · exact gN_at (n := fun d => N (ix2 (row8 1) d)) (gates1 X6 _ (ld_M M 1 1 _ rfl)) (ld_hd X1 1 512 _ rfl) (ld_N N 1 1 _ rfl) d
  · exact gN_at (n := fun d => N (ix2 (row8 2) d)) (gates2 X6 _ (ld_M M 2 2 _ rfl)) (ld_hd X1 2 1024 _ rfl) (ld_N N 2 2 _ rfl) d
  · exact gN_at (n := fun d => N (ix2 (row8 3) d)) (gates3 X6 _ (ld_M M 3 3 _ rfl)) (ld_hd X1 3 1536 _ rfl) (ld_N N 3 3 _ rfl) d

/-- The four heads' new stabilisers. -/
theorem headsM : (![
    k0_pay27 (gMN (k0_pay21 (k0_pay6 X6)) (k0_pay9 X6) (k0_pay10 X6) (View.ld M (Rect.unit ![0, 0] ![1, 1] inb_S8x128_S1x1_0_0))),
    k0_pay27 (gMN (k0_pay40 (k0_pay6 X6)) (k0_pay30 (k0_pay7 X6)) (k0_pay31 (k0_pay8 X6)) (View.ld M (Rect.unit ![1, 0] ![1, 1] inb_S8x128_S1x1_1_0))),
    k0_pay27 (gMN (k0_pay65 (k0_pay6 X6)) (k0_pay52 (k0_pay7 X6)) (k0_pay53 (k0_pay8 X6)) (View.ld M (Rect.unit ![2, 0] ![1, 1] inb_S8x128_S1x1_2_0))),
    k0_pay27 (gMN (k0_pay86 (k0_pay6 X6)) (k0_pay76 (k0_pay7 X6)) (k0_pay77 (k0_pay8 X6)) (View.ld M (Rect.unit ![3, 0] ![1, 1] inb_S8x128_S1x1_3_0)))] : Fin 4 → Vec Ideal S1x128 .f32) p (ix2 (0 : Fin 1) (0 : Fin 128)) = newM X6 M p := by
  have e : ∀ g : FVec Ideal S1x1 .f32, k0_pay27 g (ix2 (0 : Fin 1) (0 : Fin 128)) = g (ix2 (0 : Fin 1) (0 : Fin 1)) := by
    intro g; pointwise [k0_pay27]
  fin_cases p
  · exact (e _).trans (gMN_at (gates0 X6 _ (ld_M M 0 0 _ rfl)))
  · exact (e _).trans (gMN_at (gates1 X6 _ (ld_M M 1 1 _ rfl)))
  · exact (e _).trans (gMN_at (gates2 X6 _ (ld_M M 2 2 _ rfl)))
  · exact (e _).trans (gMN_at (gates3 X6 _ (ld_M M 3 3 _ rfl)))

/-- A head's output block. -/
def outB (s : Fin 256) (e : Fin 512) : EReal :=
  tail (fun e => numE (hd X0 p) (hd X1 p) (hd X2 p) (ivh X6 p) (bh X6 p) (M (ix2 (row8 p) (0 : Fin 128))) (fun d e => C (ix3 p d e)) s e
      * Ideal.div 1 (magE (hd X0 p) (hd X1 p) (ivh X6 p) (bh X6 p) (M (ix2 (row8 p) (0 : Fin 128))) (fun d => N (ix2 (row8 p) d)) s))
    (fun e => X4 (ix2 s (col p e))) (fun e => X7 (ix2 (0 : Fin 1) (col p e))) (fun e => X8 (ix2 (0 : Fin 1) (col p e)))
    (fun e => hd X3 p s e) (fun e => X5 (ix2 s (col p e))) e

theorem headO {H : FVec Ideal S256x512 .f32} {o : Vec Ideal S256x512 .f32} {w sk : Vec Ideal S1x512 .f32} {xc : Vec Ideal S256x512 .bf16}
    {z : Vec Ideal S256x512 .f32} {s : Fin 256}
    (hH : ∀ e, H (ix2 s e) = numE (hd X0 p) (hd X1 p) (hd X2 p) (ivh X6 p) (bh X6 p) (M (ix2 (row8 p) (0 : Fin 128))) (fun d e => C (ix3 p d e)) s e
      * Ideal.div 1 (magE (hd X0 p) (hd X1 p) (ivh X6 p) (bh X6 p) (M (ix2 (row8 p) (0 : Fin 128))) (fun d => N (ix2 (row8 p) d)) s))
    (ho : ∀ e, o (ix2 s e) = X4 (ix2 s (col p e))) (hw : ∀ e, w (ix2 (0 : Fin 1) e) = X7 (ix2 (0 : Fin 1) (col p e)))
    (hs : ∀ e, sk (ix2 (0 : Fin 1) e) = X8 (ix2 (0 : Fin 1) (col p e))) (hx : ∀ e, xc (ix2 s e) = hd X3 p s e)
    (hz : ∀ e, z (ix2 s e) = X5 (ix2 s (col p e))) (e : Fin 512) :
    k0_pay29 (k0_pay28 H o w sk xc) z (ix2 s e) = outB X0 X1 X2 X3 X4 X5 X6 X7 X8 C N M p s e := by
  rw [tail_at, funext hH, funext ho, funext hw, funext hs, funext hx, funext hz]
  rfl

set_option maxHeartbeats 1000000 in
/-- The four heads' output blocks. -/
theorem headsO (s : Fin 256) (e : Fin 512) : (![
    k0_pay29 (k0_pay28 (gH (k0_pay9 X6) (k0_pay10 X6) (k0_pay12 X6) (View.ld M (Rect.unit ![0, 0] ![1, 1] inb_S8x128_S1x1_0_0))
      (View.ld X0 (Rect.unit ![0, 0] ![256, 512] inb_S256x2048_S256x512_0_0)) (View.ld X1 (Rect.unit ![0, 0] ![256, 512] inb_S256x2048_S256x512_0_0)) (View.ld X2 (Rect.unit ![0, 0] ![256, 512] inb_S256x2048_S256x512_0_0)) (View.ld C (Rect.unit ![0, 0, 0] ![1, 512, 512] inb_S4x512x512_S1x512x512_0_0_0)) (View.ld N (Rect.unit ![0, 0] ![1, 512] inb_S8x512_S1x512_0_0)))
      (View.ld X4 (Rect.unit ![0, 0] ![256, 512] inb_S256x2048_S256x512_0_0)) (View.ld X7 (Rect.unit ![0, 0] ![1, 512] inb_S1x2048_S1x512_0_0)) (View.ld X8 (Rect.unit ![0, 0] ![1, 512] inb_S1x2048_S1x512_0_0)) (View.ld X3 (Rect.unit ![0, 0] ![256, 512] inb_S256x2048_S256x512_0_0))) (View.ld X5 (Rect.unit ![0, 0] ![256, 512] inb_S256x2048_S256x512_0_0)),
    k0_pay29 (k0_pay28 (gH (k0_pay30 (k0_pay7 X6)) (k0_pay31 (k0_pay8 X6)) (k0_pay33 (k0_pay6 X6)) (View.ld M (Rect.unit ![1, 0] ![1, 1] inb_S8x128_S1x1_1_0))
      (View.ld X0 (Rect.unit ![0, 512] ![256, 512] inb_S256x2048_S256x512_0_512)) (View.ld X1 (Rect.unit ![0, 512] ![256, 512] inb_S256x2048_S256x512_0_512)) (View.ld X2 (Rect.unit ![0, 512] ![256, 512] inb_S256x2048_S256x512_0_512)) (View.ld C (Rect.unit ![1, 0, 0] ![1, 512, 512] inb_S4x512x512_S1x512x512_1_0_0)) (View.ld N (Rect.unit ![1, 0] ![1, 512] inb_S8x512_S1x512_1_0)))
      (View.ld X4 (Rect.unit ![0, 512] ![256, 512] inb_S256x2048_S256x512_0_512)) (View.ld X7 (Rect.unit ![0, 512] ![1, 512] inb_S1x2048_S1x512_0_512)) (View.ld X8 (Rect.unit ![0, 512] ![1, 512] inb_S1x2048_S1x512_0_512)) (View.ld X3 (Rect.unit ![0, 512] ![256, 512] inb_S256x2048_S256x512_0_512))) (View.ld X5 (Rect.unit ![0, 512] ![256, 512] inb_S256x2048_S256x512_0_512)),
    k0_pay29 (k0_pay28 (gH (k0_pay52 (k0_pay7 X6)) (k0_pay53 (k0_pay8 X6)) (k0_pay55 (k0_pay6 X6)) (View.ld M (Rect.unit ![2, 0] ![1, 1] inb_S8x128_S1x1_2_0))
      (View.ld X0 (Rect.unit ![0, 1024] ![256, 512] inb_S256x2048_S256x512_0_1024)) (View.ld X1 (Rect.unit ![0, 1024] ![256, 512] inb_S256x2048_S256x512_0_1024)) (View.ld X2 (Rect.unit ![0, 1024] ![256, 512] inb_S256x2048_S256x512_0_1024)) (View.ld C (Rect.unit ![2, 0, 0] ![1, 512, 512] inb_S4x512x512_S1x512x512_2_0_0)) (View.ld N (Rect.unit ![2, 0] ![1, 512] inb_S8x512_S1x512_2_0)))
      (View.ld X4 (Rect.unit ![0, 1024] ![256, 512] inb_S256x2048_S256x512_0_1024)) (View.ld X7 (Rect.unit ![0, 1024] ![1, 512] inb_S1x2048_S1x512_0_1024)) (View.ld X8 (Rect.unit ![0, 1024] ![1, 512] inb_S1x2048_S1x512_0_1024)) (View.ld X3 (Rect.unit ![0, 1024] ![256, 512] inb_S256x2048_S256x512_0_1024))) (View.ld X5 (Rect.unit ![0, 1024] ![256, 512] inb_S256x2048_S256x512_0_1024)),
    k0_pay29 (k0_pay28 (gH (k0_pay76 (k0_pay7 X6)) (k0_pay77 (k0_pay8 X6)) (k0_pay79 (k0_pay6 X6)) (View.ld M (Rect.unit ![3, 0] ![1, 1] inb_S8x128_S1x1_3_0))
      (View.ld X0 (Rect.unit ![0, 1536] ![256, 512] inb_S256x2048_S256x512_0_1536)) (View.ld X1 (Rect.unit ![0, 1536] ![256, 512] inb_S256x2048_S256x512_0_1536)) (View.ld X2 (Rect.unit ![0, 1536] ![256, 512] inb_S256x2048_S256x512_0_1536)) (View.ld C (Rect.unit ![3, 0, 0] ![1, 512, 512] inb_S4x512x512_S1x512x512_3_0_0)) (View.ld N (Rect.unit ![3, 0] ![1, 512] inb_S8x512_S1x512_3_0)))
      (View.ld X4 (Rect.unit ![0, 1536] ![256, 512] inb_S256x2048_S256x512_0_1536)) (View.ld X7 (Rect.unit ![0, 1536] ![1, 512] inb_S1x2048_S1x512_0_1536)) (View.ld X8 (Rect.unit ![0, 1536] ![1, 512] inb_S1x2048_S1x512_0_1536)) (View.ld X3 (Rect.unit ![0, 1536] ![256, 512] inb_S256x2048_S256x512_0_1536))) (View.ld X5 (Rect.unit ![0, 1536] ![256, 512] inb_S256x2048_S256x512_0_1536))] : Fin 4 → Vec Ideal S256x512 .bf16) p (ix2 s e) = outB X0 X1 X2 X3 X4 X5 X6 X7 X8 C N M p s e := by
  fin_cases p
  · exact headO X0 X1 X2 X3 X4 X5 X6 X7 X8 C N M 0 (fun e => gH_at (C := fun d e => C (ix3 (0 : Fin 4) d e)) (n := fun d => N (ix2 (row8 0) d)) (gates0 X6 _ (ld_M M 0 0 _ rfl))
      (ld_hd X0 0 0 _ rfl) (ld_hd X1 0 0 _ rfl) (ld_hd X2 0 0 _ rfl) (ld_C C 0 0 _ rfl) (ld_N N 0 0 _ rfl) s e)
      (ld_f X4 0 0 _ rfl s) (ld_r X7 0 0 _ rfl) (ld_r X8 0 0 _ rfl) (ld_hd X3 0 0 _ rfl s) (ld_f X5 0 0 _ rfl s) e
  · exact headO X0 X1 X2 X3 X4 X5 X6 X7 X8 C N M 1 (fun e => gH_at (C := fun d e => C (ix3 (1 : Fin 4) d e)) (n := fun d => N (ix2 (row8 1) d)) (gates1 X6 _ (ld_M M 1 1 _ rfl))
      (ld_hd X0 1 512 _ rfl) (ld_hd X1 1 512 _ rfl) (ld_hd X2 1 512 _ rfl) (ld_C C 1 1 _ rfl) (ld_N N 1 1 _ rfl) s e)
      (ld_f X4 1 512 _ rfl s) (ld_r X7 1 512 _ rfl) (ld_r X8 1 512 _ rfl) (ld_hd X3 1 512 _ rfl s) (ld_f X5 1 512 _ rfl s) e
  · exact headO X0 X1 X2 X3 X4 X5 X6 X7 X8 C N M 2 (fun e => gH_at (C := fun d e => C (ix3 (2 : Fin 4) d e)) (n := fun d => N (ix2 (row8 2) d)) (gates2 X6 _ (ld_M M 2 2 _ rfl))
      (ld_hd X0 2 1024 _ rfl) (ld_hd X1 2 1024 _ rfl) (ld_hd X2 2 1024 _ rfl) (ld_C C 2 2 _ rfl) (ld_N N 2 2 _ rfl) s e)
      (ld_f X4 2 1024 _ rfl s) (ld_r X7 2 1024 _ rfl) (ld_r X8 2 1024 _ rfl) (ld_hd X3 2 1024 _ rfl s) (ld_f X5 2 1024 _ rfl s) e
  · exact headO X0 X1 X2 X3 X4 X5 X6 X7 X8 C N M 3 (fun e => gH_at (C := fun d e => C (ix3 (3 : Fin 4) d e)) (n := fun d => N (ix2 (row8 3) d)) (gates3 X6 _ (ld_M M 3 3 _ rfl))
      (ld_hd X0 3 1536 _ rfl) (ld_hd X1 3 1536 _ rfl) (ld_hd X2 3 1536 _ rfl) (ld_C C 3 3 _ rfl) (ld_N N 3 3 _ rfl) s e)
      (ld_f X4 3 1536 _ rfl s) (ld_r X7 3 1536 _ rfl) (ld_r X8 3 1536 _ rfl) (ld_hd X3 3 1536 _ rfl s) (ld_f X5 3 1536 _ rfl s) e
end Heads

/-- Four column blocks, read at a head's column. -/
theorem canon_cols (w0 w1 w2 w3 : Vec Ideal S256x512 .bf16) (L : List (View.Piece (Elt Ideal) S256x2048 .bf16)) (p : Fin 4) (s : Fin 256) (e : Fin 512) :
    View.canon (⟨Rect.unit ![0, 1536] ![256, 512] inb_S256x2048_S256x512_0_1536, w3⟩ ::
      ⟨Rect.unit ![0, 1024] ![256, 512] inb_S256x2048_S256x512_0_1024, w2⟩ ::
      ⟨Rect.unit ![0, 512] ![256, 512] inb_S256x2048_S256x512_0_512, w1⟩ ::
      ⟨Rect.unit ![0, 0] ![256, 512] inb_S256x2048_S256x512_0_0, w0⟩ :: L) (ix2 s (col p e)) = ![w0, w1, w2, w3] p (ix2 s e) := by
  have he := e.isLt
  have hit : ∀ (k : ℕ) (q : Fin 4), 512 * q.val = k → ∀ a : Fin 2, ((ix2 s (col q e) : S256x2048.Idx) a).val = (![0, k] : Fin 2 → ℕ) a + ((ix2 s e : S256x512.Idx) a).val := by
    intro k q hq a; fin_cases a <;> simp [col, hq]
  fin_cases p
  · refine (canon_skip _ _ _ _ _ _ (1 : Fin 2) (Or.inl (by simp [col]; omega))).trans ((canon_skip _ _ _ _ _ _ (1 : Fin 2) (Or.inl (by simp [col]; omega))).trans ((canon_skip _ _ _ _ _ _ (1 : Fin 2) (Or.inl (by simp [col]))).trans (canon_hit _ _ _ _ _ _ _ (hit 0 0 rfl))))
  · refine (canon_skip _ _ _ _ _ _ (1 : Fin 2) (Or.inl (by simp [col]; omega))).trans ((canon_skip _ _ _ _ _ _ (1 : Fin 2) (Or.inl (by simp [col]; omega))).trans (canon_hit _ _ _ _ _ _ _ (hit 512 1 rfl)))
  · refine (canon_skip _ _ _ _ _ _ (1 : Fin 2) (Or.inl (by simp [col]; omega))).trans (canon_hit _ _ _ _ _ _ _ (hit 1024 2 rfl))
  · exact canon_hit _ _ _ _ _ _ _ (hit 1536 3 rfl)

variable (m : (ℓ : Loc nD τ sig) → Buf (Elt Ideal) ℓ)

/-- The matrix memory a grid point starts from. -/
def preC (c : Dev nD) (t : Fin cfg0.N) : Vec Ideal S4x512x512 .f32 :=
  if t.val % 32 = 0 then k0_pay2 (F := Ideal) else (outsAt0 m c (t.val - 1) (lt_of_le_of_lt (Nat.sub_le _ _) t.isLt)).2.1
/-- The normaliser memory a grid point starts from. -/
def preN (c : Dev nD) (t : Fin cfg0.N) : Vec Ideal S8x512 .f32 :=
  if t.val % 32 = 0 then k0_pay3 (F := Ideal) else (outsAt0 m c (t.val - 1) (lt_of_le_of_lt (Nat.sub_le _ _) t.isLt)).2.2.1
/-- The stabilisers a grid point starts from. -/
def preM (c : Dev nD) (t : Fin cfg0.N) : Vec Ideal S8x128 .f32 :=
  if t.val % 32 = 0 then k0_pay4 (F := Ideal) else (outsAt0 m c (t.val - 1) (lt_of_le_of_lt (Nat.sub_le _ _) t.isLt)).2.2.2

set_option maxHeartbeats 4000000 in
/-- The matrix memory a grid point leaves. -/
theorem pointC (c : Dev nD) (t : Fin cfg0.N) (p : Fin 4) (d e : Fin 512) :
    (outsAt0 m c t.val t.isLt).2.1 (ix3 p d e) = newC (iblk m c 1 t) (iblk m c 2 t) (iblk m c 6 t) (preC m c t) (preM m c t) p d e := by
  unfold preC preM
  by_cases ht : t.val % 32 = 0
  · rw [if_pos ht, if_pos ht, outsAt0_A m c t ht]
    frame_out
    simp (discharger := decide) only [↓View.readCov_skip, View.readCov_fill]
    exact (canon_slices _ _ _ _ _ p d e).trans (headsC _ _ _ _ _ p d e)
  · rw [if_neg ht, if_neg ht, outsAt0_B m c t ht]
    frame_out
    simp only [read_unread_whole]
    exact (canon_slices _ _ _ _ _ p d e).trans (headsC _ _ _ _ _ p d e)

set_option maxHeartbeats 4000000 in
/-- The normaliser memory a grid point leaves. -/
theorem pointN (c : Dev nD) (t : Fin cfg0.N) (p : Fin 4) (d : Fin 512) :
    (outsAt0 m c t.val t.isLt).2.2.1 (ix2 (row8 p) d) = newN (iblk m c 1 t) (iblk m c 6 t) (preN m c t) (preM m c t) p d := by
  unfold preN preM
  by_cases ht : t.val % 32 = 0
  · rw [if_pos ht, if_pos ht, outsAt0_A m c t ht]
    frame_out
    simp (discharger := decide) only [↓View.readCov_skip, View.readCov_fill]
    exact (canon_rows 512 _ _ _ _ _ _ _ _ _ p d).trans (headsN _ _ _ _ p d)
  · rw [if_neg ht, if_neg ht, outsAt0_B m c t ht]
    frame_out
    simp only [read_unread_whole]
    exact (read_rows 512 _ _ _ _ _ _ _ _ _ _ p d).trans (headsN _ _ _ _ p d)

set_option maxHeartbeats 4000000 in
/-- The stabilisers a grid point leaves. -/
theorem pointM (c : Dev nD) (t : Fin cfg0.N) (p : Fin 4)  :
    (outsAt0 m c t.val t.isLt).2.2.2 (ix2 (row8 p) (0 : Fin 128)) = newM (iblk m c 6 t) (preM m c t) p := by
  unfold preM
  by_cases ht : t.val % 32 = 0
  · rw [if_pos ht, outsAt0_A m c t ht]
    frame_out
    simp (discharger := decide) only [↓View.readCov_skip, View.readCov_fill]
    exact (canon_rows 128 _ _ _ _ _ _ _ _ _ p 0).trans (headsM _ _ p)
  · rw [if_neg ht, outsAt0_B m c t ht]
    frame_out
    simp only [read_unread_whole]
    exact (read_rows 128 _ _ _ _ _ _ _ _ _ _ p 0).trans (headsM _ _ p)

set_option maxHeartbeats 4000000 in
/-- The output block a grid point leaves. -/
theorem pointO (c : Dev nD) (t : Fin cfg0.N) (p : Fin 4) (s : Fin 256) (e : Fin 512) :
    (outsAt0 m c t.val t.isLt).1 (ix2 s (col p e)) = outB (iblk m c 0 t) (iblk m c 1 t) (iblk m c 2 t) (iblk m c 3 t) (iblk m c 4 t) (iblk m c 5 t) (iblk m c 6 t) (iblk m c 7 t) (iblk m c 8 t) (preC m c t) (preN m c t) (preM m c t) p s e := by
  unfold preC preN preM
  by_cases ht : t.val % 32 = 0
  · rw [if_pos ht, if_pos ht, if_pos ht, outsAt0_A m c t ht]
    frame_out
    simp (discharger := decide) only [↓View.readCov_skip, View.readCov_fill]
    exact (canon_cols _ _ _ _ _ p s e).trans (headsO _ _ _ _ _ _ _ _ _ _ _ _ p s e)
  · rw [if_neg ht, if_neg ht, if_neg ht, outsAt0_B m c t ht]
    frame_out
    simp only [read_unread_whole]
    exact (canon_cols _ _ _ _ _ p s e).trans (headsO _ _ _ _ _ _ _ _ _ _ _ _ p s e)

end Cert.Cell
end
-- ==== Proof.CmpOut.lean ====
module
public import proofs.«01_k».proof.Proof.Gen.KernelCmpIdeal
public import proofs.«01_k».proof.Proof.Gen.KernelCmpIdeal.Frame
public import proofs.«01_k».proof.Proof.CmpHeads
public import proofs.«01_k».proof.Proof.CmpKernel
public import proofs.«01_k».proof.Proof.CellKernel
public import Idealize.ShloMosaic.Lib.Pipeline.ValueKit
public import Idealize.ShloMosaic.Lib.Pipeline.ReadBack

@[expose] public section
noncomputable section
set_option maxRecDepth 16384

namespace Cert.CmpKernel
open Cert.KernelCmpIdeal Cert.KernelCmpIdeal.Gen Idealize.ShloMosaic Idealize.ShloMosaic.TcCoe Idealize.SL.Sem
open Idealize.ShloMosaic.Pipeline (Dat)
open Cert.Cmp

/-! What one grid point of the compressed attention leaves: per head and position a masked softmax over the keys. -/

/-- Eight column blocks, read at a head's column. -/
theorem canon_heads (w0 w1 w2 w3 w4 w5 w6 w7 : Vec Ideal S128x128 .f32) (L : List (View.Piece (Elt Ideal) S128x1024 .f32)) (p : Fin 8) (s d : Fin 128) :
    View.canon (⟨Rect.unit ![0, 896] ![128, 128] inb_S128x1024_S128x128_0_896, w7⟩ ::
      ⟨Rect.unit ![0, 768] ![128, 128] inb_S128x1024_S128x128_0_768, w6⟩ ::
      ⟨Rect.unit ![0, 640] ![128, 128] inb_S128x1024_S128x128_0_640, w5⟩ ::
      ⟨Rect.unit ![0, 512] ![128, 128] inb_S128x1024_S128x128_0_512, w4⟩ ::
      ⟨Rect.unit ![0, 384] ![128, 128] inb_S128x1024_S128x128_0_384, w3⟩ ::
      ⟨Rect.unit ![0, 256] ![128, 128] inb_S128x1024_S128x128_0_256, w2⟩ ::
      ⟨Rect.unit ![0, 128] ![128, 128] inb_S128x1024_S128x128_0_128, w1⟩ ::
      ⟨Rect.unit ![0, 0] ![128, 128] inb_S128x1024_S128x128_0_0, w0⟩ :: L) (ix2 s (row p d)) = ![w0, w1, w2, w3, w4, w5, w6, w7] p (ix2 s d) := by
  have hd := d.isLt
  have hit : ∀ (k : ℕ) (q : Fin 8), 128 * q.val = k → ∀ a : Fin 2, ((ix2 s (row q d) : S128x1024.Idx) a).val = (![0, k] : Fin 2 → ℕ) a + ((ix2 s d : S128x128.Idx) a).val := by
    intro k q hq a; fin_cases a <;> simp [row, hq]
  fin_cases p <;>
    repeat (first
      | exact Cert.Cell.canon_hit _ _ _ _ _ _ _ (hit _ _ rfl)
      | refine (Cert.Cell.canon_skip _ _ _ _ _ _ (1 : Fin 2) (Or.inl (by simp [row] <;> omega))).trans ?_)

/-- A head's columns of a block, as a load reads them. -/
theorem ld_head (X : Vec Ideal S128x1024 .f32) (h : Fin 8) (inb) (s d : Fin 128) :
    View.ld X (Rect.unit (s := S128x1024) ![0, 128 * h.val] ![128, 128] inb) (ix2 s d) = X (ix2 s (row h d)) :=
  congrArg X (funext fun a => Fin.ext (by fin_cases a <;> simp [row]))

section Out
variable (m : (ℓ : Loc nD τ sig) → Buf (Elt Ideal) ℓ) (c : Dev nD)

theorem inb_head (h : Fin 8) : ∀ a, (![0, 128 * h.val] : Fin 2 → ℕ) a + (![128, 128] : Fin 2 → ℕ) a ≤ S128x1024.size a := by
  revert h; decide

set_option maxHeartbeats 4000000 in
/-- The output block a grid point leaves, over the blocks it reads. -/
theorem point (t : Fin cfg0.N) (h : Fin 8) (s d : Fin 128) : (outsAt0 m c t).1 (ix2 s (row h d))
    = outE ((iblk m c 4 t : Vec Ideal S128x128 .f32) (ix2 s (⟨h.val, by have := h.isLt; omega⟩ : Fin 128))) ((X0_3 m c t : Vec Ideal S128x1024 .f32) (ix2 s (row h d)))
      (att (fun d => (iblk m c 0 t : Vec Ideal S128x1024 .bf16) (ix2 s (row h d))) (fun n d => (iblk m c 1 t : Vec Ideal S1x512x128 .bf16) (ix3 (0 : Fin 1) n d))
        (fun n d => (iblk m c 2 t : Vec Ideal S1x512x128 .bf16) (ix3 (0 : Fin 1) n d)) (slopeK (8 * (grid0.coords t 1).val + h.val)) (128 * (grid0.coords t 2).val + s.val) d) := by
  unfold outsAt0
  frame_out
  refine (canon_heads _ _ _ _ _ _ _ _ _ h s d).trans ((heads_at _ (iblk m c 4 t) (fun h => View.ld (X0_3 m c t) (Rect.unit (s := S128x1024) ![0, 128 * h.val] ![128, 128] (inb_head h))) h s d).trans ?_)
  rw [stack_at]
  exact congrArg (fun z => outE _ z _) (ld_head (X0_3 m c t) h (inb_head h) s d)

/-- The blocks of the windows, at every grid point. -/
theorem idx : ∀ t : Fin cfg0.N, win0_0.index t = ![64 * (t.val / 128) + t.val % 64, t.val / 64 % 2] ∧ win0_1.index t = ![2 * (t.val / 128) + t.val / 64 % 2, 0, 0]
    ∧ win0_2.index t = ![16 + 2 * (t.val / 128) + t.val / 64 % 2, 0, 0] ∧ win0_3.index t = ![64 * (t.val / 128) + t.val % 64, t.val / 64 % 2]
    ∧ win0_4.index t = ![64 * (t.val / 128) + t.val % 64, 48 + t.val / 64 % 2] ∧ win0_6.index t = ![64 * (t.val / 128) + t.val % 64, t.val / 64 % 2]
    ∧ (grid0.coords t 1).val = t.val / 64 % 2 ∧ (grid0.coords t 2).val = t.val % 64 :=
  (by decide +kernel : ∀ t : Fin grid0.N, _)

section Blocks
variable (t : Fin cfg0.N) (s : Fin 128) (h : Fin 8) (d : Fin 128) (n : Fin 512)
theorem lt_N : t.val < 1024 := lt_of_lt_of_eq t.isLt N_0
/-- A grid point's batch entry. -/
def bt : Fin 8 := ⟨t.val / 128, by have := lt_N t; omega⟩
/-- A grid point's group. -/
def gt : Fin 2 := ⟨t.val / 64 % 2, by omega⟩
/-- The position of a row of a grid point's blocks. -/
def ps : Fin 8192 := ⟨128 * (t.val % 64) + s.val, by have := s.isLt; omega⟩

theorem blk0 : (iblk m c 0 t : Vec Ideal S128x1024 .bf16) (ix2 s (row h d)) = (m ((c : Thread nD τ).loc main_arg0) : Vec Ideal S65536x2048 .bf16) (ix2 (pos (bt t) (ps t s)) (qcol (gt t) h d)) := by
  blk_point [iblk, V, idx t] <;> simp [pos, qcol, bt, gt, ps, row] <;> omega
theorem blk1 : (iblk m c 1 t : Vec Ideal S1x512x128 .bf16) (ix3 (0 : Fin 1) n d) = (m ((c : Thread nD τ).loc main_arg1) : Vec Ideal S32x512x128 .bf16) (ix3 (kblk (bt t) (gt t)) n d) := by
  blk_point [iblk, V, idx t] <;> simp [kblk, bt, gt] <;> omega
theorem blk2 : (iblk m c 2 t : Vec Ideal S1x512x128 .bf16) (ix3 (0 : Fin 1) n d) = (m ((c : Thread nD τ).loc main_arg1) : Vec Ideal S32x512x128 .bf16) (ix3 (vblk (bt t) (gt t)) n d) := by
  blk_point [iblk, V, idx t] <;> simp [vblk, bt, gt] <;> omega
theorem blk3 : (X0_3 m c t : Vec Ideal S128x1024 .f32) (ix2 s (row h d)) = (m ((c : Thread nD τ).loc main_arg2) : Vec Ideal S65536x6400 .f32) (ix2 (pos (bt t) (ps t s)) (zcol (gt t) h d)) := by
  unfold X0_3 Pipeline.Window.fill
  rw [dif_pos (moved0_3 t _)]
  blk_point [iblk, V, idx t] <;> simp [pos, zcol, bt, gt, ps, row] <;> omega
theorem blk4 : (iblk m c 4 t : Vec Ideal S128x128 .f32) (ix2 s (⟨h.val, by have := h.isLt; omega⟩ : Fin 128)) = (m ((c : Thread nD τ).loc main_arg2) : Vec Ideal S65536x6400 .f32) (ix2 (pos (bt t) (ps t s)) (gcol (gt t) h)) := by
  blk_point [iblk, V, idx t] <;> simp [pos, gcol, bt, gt, ps] <;> omega

/-- The output block a grid point leaves, over the arrays. -/
theorem point_arr : (outsAt0 m c t).1 (ix2 s (row h d)) = cell (bt t) (ps t s) (gt t) h d
    (m ((c : Thread nD τ).loc main_arg0)) (m ((c : Thread nD τ).loc main_arg1)) (m ((c : Thread nD τ).loc main_arg2)) := by
  rw [point, (idx t).2.2.2.2.2.2.1, (idx t).2.2.2.2.2.2.2]
  unfold cell
  simp only [blk0, blk1, blk2, blk3, blk4]
  rfl
end Blocks

set_option maxHeartbeats 1000000 in
/-- The kernel's result is the attention, entry by entry. -/
theorem final (F : Vec Ideal SQ .f32)
    (hF : ∀ b p g h d, F (ix2 (pos b p) (qcol g h d)) = cell b p g h d (m ((c : Thread nD τ).loc main_arg0)) (m ((c : Thread nD τ).loc main_arg1)) (m ((c : Thread nD τ).loc main_arg2))) :
    (dats m 0 c).arrAt 6 (cfgs 0).N = F := by
  refine (dats m 0 c).arrAt_eq_of_covers 6 _ (by decide +kernel) fun t _ y => ?_
  blk_simp
  rw [after0_6]
  have ht := lt_N t
  obtain ⟨s, e, rfl⟩ : ∃ (s : Fin 128) (e : Fin 1024), y = ix2 s e := ⟨y 0, y 1, eq_ix2 y⟩
  have hs := s.isLt
  have he := e.isLt
  have hp := point_arr m c t s ⟨e.val / 128, by omega⟩ ⟨e.val % 128, by omega⟩
  refine Eq.trans (congrArg (fun e : Fin 1024 => (outsAt0 m c t).1 (ix2 s e)) (Fin.ext ?_)) (hp.trans ((hF _ _ _ _ _).symm.trans (congrArg F ?_)))
  · show e.val = 128 * (e.val / 128) + e.val % 128; omega
  · symm
    blk_ext [idx t] <;> simp [pos, qcol, bt, gt, ps] <;> omega
end Out

end Cert.CmpKernel
end
-- ==== Proof.CmpPair.lean ====
module
public import proofs.«01_k».proof.Defs
public import proofs.«01_k».proof.Proof.CmpRefAt
public import proofs.«01_k».proof.Proof.CmpOut
public import proofs.«01_k».proof.Proof.Gen.KernelCmpIdeal.Frame
public import Idealize.ShloMosaic.Lib.Pipeline.ValueKit
public import Idealize.ShloMosaic.Adequacy
public import Idealize.ShloMosaic.Init

@[expose] public section
noncomputable section
set_option maxRecDepth 16384

open Idealize.ShloMosaic Idealize.ShloMosaic.TcCoe Idealize.SL.Sem

namespace Cert.CmpPair
attribute [local instance] Cert.KernelCmpIdeal.Gen.facts Cert.ReferenceCmpIdeal.Gen.facts

set_option maxHeartbeats 4000000 in
/-- Kernel and reference of the compressed attention end with the same array. -/
theorem algebraic : Cert.algebraic_KernelCmpIdeal_ReferenceCmpIdeal := by
  pair_intro
  · run_from Cert.KernelCmpIdeal.Gen.run_main m g
  · hlo_run
    refine Eq.trans (b := Cert.CmpRef.REF (m ((c : Thread Cert.KernelCmpIdeal.nD Cert.KernelCmpIdeal.τ).loc Cert.KernelCmpIdeal.main_arg0)) (m ((c : Thread Cert.KernelCmpIdeal.nD Cert.KernelCmpIdeal.τ).loc Cert.KernelCmpIdeal.main_arg1)) (m ((c : Thread Cert.KernelCmpIdeal.nD Cert.KernelCmpIdeal.τ).loc Cert.KernelCmpIdeal.main_arg2))) ?_ ?_
    · rfl
    · exact (Cert.CmpKernel.final m c _ fun b p g h d => Cert.CmpRef.REF_at _ _ _ b p g h d).symm

set_option maxHeartbeats 4000000 in
/-- The reference alone: it ends, nothing faults, its arguments are unchanged. -/
theorem refFrame : Cert.quiescent_ReferenceCmpIdeal := by
  intro m g _
  hlo_run
  · intro c; exact ⟨trivial, trivial, trivial⟩
  · exact sem_eq_zero_of_no_sems rfl _

end Cert.CmpPair
end
-- ==== Proof.CellHost.lean ====
module
public import proofs.«01_k».proof.Proof.Gen.ReferenceIdeal
public import proofs.«01_k».proof.Proof.Mlstm
public import Idealize.ShloMosaic.Lib.Pipeline.ValueKit
public import Idealize.ShloMosaic.Lib.DynamicIndex
public import Idealize.ShloMosaic.Lib.WordCmp

@[expose] public section
noncomputable section
set_option maxRecDepth 16384

namespace Cert.CellRef
open Cert.ReferenceIdeal Cert.ReferenceIdeal.Gen Idealize.ShloMosaic
open Cert.Mlstm

/-! Host operations of the reference at an index. -/

/-- A left fold of sums is the initial value plus the sum. -/
theorem foldl_sum {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- A sum over a window one wide in its first two axes. -/
theorem sum_row (g : (⟨3, ![1, 1, 64]⟩ : Shape).Idx → EReal) : (∑ i, g i) = ∑ w : Fin 64, g (ix3 (0 : Fin 1) (0 : Fin 1) w) := by
  refine (Fintype.sum_bijective (fun w : Fin 64 => (ix3 (0 : Fin 1) (0 : Fin 1) w : (⟨3, ![1, 1, 64]⟩ : Shape).Idx)) ⟨fun a b h => ?_, fun i => ⟨i 2, ?_⟩⟩ _ _ fun w => rfl).symm
  · exact congrFun h 2
  · funext a
    match a with
    | ⟨0, _⟩ => exact Fin.ext (by have : (i 0).val < 1 := (i 0).isLt; show 0 = (i 0).val; omega)
    | ⟨1, _⟩ => exact Fin.ext (by have : (i 1).val < 1 := (i 1).isLt; show 0 = (i 1).val; omega)
    | ⟨2, _⟩ => rfl

/-- A window of 64 ending at a position holds the entries up to that position. -/
theorem sum_win (t : Fin 64) (f : ℕ → ℝ) :
    (∑ w ∈ Finset.range 64, if 63 ≤ t.val + w then f (t.val + w - 63) else 0) = ∑ s ∈ Finset.range (t.val + 1), f s := by
  have ht := t.isLt
  rw [← Finset.sum_range_reflect, ← Finset.sum_range_reflect (fun s => f s), ← Finset.sum_filter_add_sum_filter_not _ (fun w => w < t.val + 1)]
  rw [show (Finset.range 64).filter (fun w => w < t.val + 1) = Finset.range (t.val + 1) by ext w; simp only [Finset.mem_filter, Finset.mem_range]; omega]
  rw [Finset.sum_eq_zero (s := (Finset.range 64).filter fun w => ¬ w < t.val + 1), add_zero]
  · refine Finset.sum_congr rfl fun w hw => ?_
    rw [Finset.mem_range] at hw
    rw [if_pos (by omega)]
    congr 1; omega
  · intro w hw
    rw [Finset.mem_filter, Finset.mem_range] at hw
    rw [if_neg (by omega)]

/-- The cumulative sum along the last axis, of reals. -/
theorem cumsum_at (x : FVec Ideal S8x4x64 .f32) (init : FVec Ideal S_ .f32) (h0 : ∀ i, init i = 0)
    (h : S8x4x64.ReduceWindows ![1, 1, 64] ![1, 1, 1] ![0, 0, 63] ![0, 0, 0] S8x4x64) (hu : 0 < S_.numel) (a : Fin 8) (p : Fin 4) (t : Fin 64)
    (f : ℕ → ℝ) (hx : ∀ s : Fin 64, x (ix3 a p s) = ((f s : ℝ) : EReal)) :
    Host.reduceWindowAdd ![1, 1, 64] ![1, 1, 1] ![0, 0, 63] ![0, 0, 0] x init h hu (ix3 a p t) = ((∑ r ∈ Finset.range (t.val + 1), f r : ℝ) : EReal) := by
  have ht := t.isLt
  show Host.reduceWindow (· + ·) ![1, 1, 64] ![1, 1, 1] ![0, 0, 63] ![0, 0, 0] x init h hu (ix3 a p t) = _
  unfold Host.reduceWindow
  dsimp only
  rw [foldl_sum, h0, zero_add]
  refine (Equiv.sum_comp (Shape.rowMajor ⟨3, ![1, 1, 64]⟩) _).symm.trans ?_
  simp only [Equiv.symm_apply_apply]
  rw [sum_row, ← sum_win t f, ← Fin.sum_univ_eq_sum_range (fun w => if 63 ≤ t.val + w then f (t.val + w - 63) else 0), coe_sum]
  refine Finset.sum_congr rfl fun w _ => ?_
  have hw := w.isLt
  by_cases hc : 63 ≤ t.val + w.val
  · rw [if_pos hc, dif_pos]
    · refine Eq.trans (congrArg x (funext fun b => ?_)) (hx ⟨t.val + w.val - 63, by omega⟩)
      match b with
      | ⟨0, _⟩ => exact Fin.ext (by show a.val * 1 + 0 - 0 = a.val; omega)
      | ⟨1, _⟩ => exact Fin.ext (by show p.val * 1 + 0 - 0 = p.val; omega)
      | ⟨2, _⟩ => exact Fin.ext (by show t.val * 1 + w.val - 63 = t.val + w.val - 63; omega)
    · intro b
      match b with
      | ⟨0, _⟩ => exact ⟨Nat.zero_le _, by show a.val * 1 + 0 - 0 < 8; omega⟩
      | ⟨1, _⟩ => exact ⟨Nat.zero_le _, by show p.val * 1 + 0 - 0 < 4; omega⟩
      | ⟨2, _⟩ => exact ⟨by show 63 ≤ t.val * 1 + w.val; omega, by show t.val * 1 + w.val - 63 < 64; omega⟩
  · rw [if_neg hc, dif_neg]
    · rfl
    · intro hin
      have h2 : 63 ≤ t.val * 1 + w.val := (hin 2).1
      omega

theorem max_fold_congr {n : ℕ} (f g : Fin n → EReal) (h : ∀ s, f s = g s) :
    (Finset.univ : Finset (Fin n)).fold max ⊥ f = (Finset.univ : Finset (Fin n)).fold max ⊥ g := by rw [funext h]

theorem ninf : Ideal.ofBits .f32 4286578688#32 = ⊥ := by simp [Ideal.ofBits, Ideal.ieee]

/-- The maximum along the last of four axes. -/
theorem max4_at (x : FVec Ideal S8x4x64x64 .f32) (h : S8x4x64x64.ReducesTo [3] S8x4x64) (hu : 0 < S_.numel) (a : Fin 8) (p : Fin 4) (t : Fin 64) :
    Host.reduce FloatOps.maximumf x (constant S_ .f32 0xFF800000#32) h hu (ix3 a p t)
      = (Finset.univ : Finset (Fin 64)).fold max ⊥ fun s => x (ix4 a p t s) := by
  have hr : S8x4x64x64.Reduces [3] S8x4x64 := by decide
  refine (Host.reduce_eq_fold_single (max : EReal → EReal → EReal) x (constant (F := Ideal) S_ .f32 0xFF800000#32) h hr hu (ix3 a p t)).trans ?_
  rw [show (constant (F := Ideal) S_ .f32 0xFF800000#32) (Shape.Idx.first hu) = (⊥ : EReal) from ninf]
  refine max_fold_congr _ _ fun s => congrArg x (funext fun b => ?_)
  match b with
  | ⟨0, _⟩ => rfl
  | ⟨1, _⟩ => rfl
  | ⟨2, _⟩ => rfl
  | ⟨3, _⟩ => rfl

/-- The maximum along the last of three axes. -/
theorem max3_at (x : FVec Ideal S8x4x64 .f32) (h : S8x4x64.ReducesTo [2] S8x4) (hu : 0 < S_.numel) (a : Fin 8) (p : Fin 4) :
    Host.reduce FloatOps.maximumf x (constant S_ .f32 0xFF800000#32) h hu (ix2 a p)
      = (Finset.univ : Finset (Fin 64)).fold max ⊥ fun s => x (ix3 a p s) := by
  have hr : S8x4x64.Reduces [2] S8x4 := by decide
  refine (Host.reduce_eq_fold_single (max : EReal → EReal → EReal) x (constant (F := Ideal) S_ .f32 0xFF800000#32) h hr hu (ix2 a p)).trans ?_
  rw [show (constant (F := Ideal) S_ .f32 0xFF800000#32) (Shape.Idx.first hu) = (⊥ : EReal) from ninf]
  refine max_fold_congr _ _ fun s => congrArg x (funext fun b => ?_)
  match b with
  | ⟨0, _⟩ => rfl
  | ⟨1, _⟩ => rfl
  | ⟨2, _⟩ => rfl

/-- The word of a loop counter reads back as the counter. -/
theorem word_toInt (j : Fin 128) : (BitVec.ofNat 32 j.val).toInt = (j.val : ℤ) := by revert j; decide +kernel

/-- A slice of one chunk. -/
theorem slice5_at {α : Type} (x : S128x8x4x64x512.Idx → α) (st : Fin 5 → Int) (h : S128x8x4x64x512.Slices (fun _ => 0) S1x8x4x64x512) (j : Fin 128)
    (hst : ∀ a, st a = ((![j.val, 0, 0, 0, 0] : Fin 5 → ℕ) a : ℤ)) (o : Fin 1) (a : Fin 8) (p : Fin 4) (t : Fin 64) (d : Fin 512) :
    Host.dynamicSlice S1x8x4x64x512 x st h (ix5 o a p t d) = x (ix5 j a p t d) := by
  have hs : S128x8x4x64x512.Slices ![j.val, 0, 0, 0, 0] S1x8x4x64x512 := ⟨rfl, fun b => by
    have := j.isLt
    fin_cases b <;> simp <;> omega⟩
  rw [Host.dynamicSlice_eq_extractStridedSlice _ x st _ h hs hst]
  refine congrArg x (funext fun b => ?_)
  match b with
  | ⟨0, _⟩ => exact Fin.ext (by show j.val + o.val = j.val; omega)
  | ⟨1, _⟩ => exact Fin.ext (Nat.zero_add _)
  | ⟨2, _⟩ => exact Fin.ext (Nat.zero_add _)
  | ⟨3, _⟩ => exact Fin.ext (Nat.zero_add _)
  | ⟨4, _⟩ => exact Fin.ext (Nat.zero_add _)

/-- A slice of one chunk of the gates. -/
theorem slice4_at {α : Type} (x : S128x8x4x64.Idx → α) (st : Fin 4 → Int) (h : S128x8x4x64.Slices (fun _ => 0) S1x8x4x64) (j : Fin 128)
    (hst : ∀ a, st a = ((![j.val, 0, 0, 0] : Fin 4 → ℕ) a : ℤ)) (o : Fin 1) (a : Fin 8) (p : Fin 4) (t : Fin 64) :
    Host.dynamicSlice S1x8x4x64 x st h (ix4 o a p t) = x (ix4 j a p t) := by
  have hs : S128x8x4x64.Slices ![j.val, 0, 0, 0] S1x8x4x64 := ⟨rfl, fun b => by
    have := j.isLt
    fin_cases b <;> simp <;> omega⟩
  rw [Host.dynamicSlice_eq_extractStridedSlice _ x st _ h hs hst]
  refine congrArg x (funext fun b => ?_)
  match b with
  | ⟨0, _⟩ => exact Fin.ext (by show j.val + o.val = j.val; omega)
  | ⟨1, _⟩ => exact Fin.ext (Nat.zero_add _)
  | ⟨2, _⟩ => exact Fin.ext (Nat.zero_add _)
  | ⟨3, _⟩ => exact Fin.ext (Nat.zero_add _)

/-- Writing one chunk: that chunk holds the update, the others are as they were. -/
theorem update5_at {α : Type} (x : S128x8x4x64x512.Idx → α) (u : S1x8x4x64x512.Idx → α) (st : Fin 5 → Int)
    (h : S128x8x4x64x512.Slices (fun _ => 0) S1x8x4x64x512) (j : Fin 128)
    (hst : ∀ a, st a = ((![j.val, 0, 0, 0, 0] : Fin 5 → ℕ) a : ℤ)) (i : Fin 128) (a : Fin 8) (p : Fin 4) (t : Fin 64) (d : Fin 512) :
    Host.dynamicUpdateSlice x u st h (ix5 i a p t d) = if i = j then u (ix5 (0 : Fin 1) a p t d) else x (ix5 i a p t d) := by
  have hj := j.isLt
  have hc : ∀ b : Fin 5, Host.clampedStart S128x8x4x64x512 S1x8x4x64x512 h.1 st b = (![j.val, 0, 0, 0, 0] : Fin 5 → ℕ) b := fun b =>
    Host.clampedStart_of_le h.1 st b _ (hst b) (by fin_cases b <;> simp [Fin.cast] <;> omega)
  rw [Host.dynamicUpdateSlice_apply]
  by_cases hi : i = j
  · subst hi
    rw [if_pos rfl, dif_pos]
    · refine congrArg u (funext fun b => ?_)
      match b with
      | ⟨0, _⟩ => exact Fin.ext (by have := hc 0; show i.val - Host.clampedStart _ _ _ _ _ = 0; exact Nat.sub_eq_zero_of_le this.ge)
      | ⟨1, _⟩ => exact Fin.ext (congrArg (a.val - ·) (hc 1))
      | ⟨2, _⟩ => exact Fin.ext (congrArg (p.val - ·) (hc 2))
      | ⟨3, _⟩ => exact Fin.ext (congrArg (t.val - ·) (hc 3))
      | ⟨4, _⟩ => exact Fin.ext (congrArg (d.val - ·) (hc 4))
    · intro b
      rw [hc b]
      match b with
      | ⟨0, _⟩ => exact ⟨le_refl _, Nat.lt_succ_self _⟩
      | ⟨1, _⟩ => exact ⟨Nat.zero_le _, by show a.val < 0 + 8; omega⟩
      | ⟨2, _⟩ => exact ⟨Nat.zero_le _, by show p.val < 0 + 4; omega⟩
      | ⟨3, _⟩ => exact ⟨Nat.zero_le _, by show t.val < 0 + 64; omega⟩
      | ⟨4, _⟩ => exact ⟨Nat.zero_le _, by show d.val < 0 + 512; omega⟩
  · rw [if_neg hi, dif_neg]
    intro hin
    have h0 := hin 0
    rw [hc 0] at h0
    exact hi (Fin.ext (by have h1 : j.val ≤ i.val := h0.1; have h2 : i.val < j.val + 1 := h0.2; omega))

/-- The word of the lower triangle selects. -/
theorem tri_sel (t s : Fin 64) (x y : EReal) :
    Scalar.select (IntOp.cmpi .sge (BitVec.ofNat 32 (t : ℕ)) (BitVec.ofNat 32 (s : ℕ))) x y = if s ≤ t then x else y := by
  rw [WordCmp.cmpi_sge_ofNat (by have := t.isLt; omega) (by have := s.isLt; omega)]
  by_cases h : s ≤ t
  · simp [Scalar.select, h, Fin.le_def.1 h]
  · simp [Scalar.select, h, mt Fin.le_def.2 h]

/-- The log forget gates of real gates. -/
theorem lf_at (x : FVec Ideal S128x8x4x64 .f32) (i : S128x8x4x64.Idx) {r : ℝ} (hx : x i = (r : EReal)) :
    Host.negf (select
        (cmpf .une (subf (Host.negf x) (broadcastInDim S128x8x4x64 ![] bcast_S_S128x8x4x64 (constant S_ FTy.f32 0#32)))
          (subf (Host.negf x) (broadcastInDim S128x8x4x64 ![] bcast_S_S128x8x4x64 (constant S_ FTy.f32 0#32))))
        (addf (Host.negf x) (broadcastInDim S128x8x4x64 ![] bcast_S_S128x8x4x64 (constant S_ FTy.f32 0#32)))
        (addf (maximumf (Host.negf x) (broadcastInDim S128x8x4x64 ![] bcast_S_S128x8x4x64 (constant S_ FTy.f32 0#32)))
          (Host.log1p (Host.exp (Host.negf (Host.absf (subf (Host.negf x) (broadcastInDim S128x8x4x64 ![] bcast_S_S128x8x4x64 (constant S_ FTy.f32 0#32)))))))))
      i = ((lsig r : ℝ) : EReal) := by
  pointwise []
  rw [hx]
  rw [← lsig_softplus r, if_neg (not_not.2 rfl), sub_zero]
  rfl
/-- Rows split by sequence. -/
theorem layG (g : FVec Ideal S65536x128 .f32) (a : Fin 8) (r : Fin 8192) (p : Fin 128) :
    shapeCast S8x8192x128 g shapeCasts_S65536x128_S8x8192x128 (ix3 a r p) = g (ix2 (⟨8192 * a + r, by omega⟩ : Fin 65536) p) := by
  pointwise []
  exact congrArg (fun i : Fin 65536 => g (ix2 i p)) (Fin.ext (by show a.val * 8192 + r.val = 8192 * a.val + r.val; omega))
/-- Gates split by chunk. -/
theorem layT (x : FVec Ideal S8x8192x4 .f32) (j : Fin 128) (a : Fin 8) (p : Fin 4) (t : Fin 64) :
    (transpose S128x8x4x64 [0, 1, 3, 2] (transpose S128x8x64x4 [1, 0, 2, 3] (shapeCast S8x128x64x4 x shapeCasts_S8x8192x4_S8x128x64x4) transposes_S8x128x64x4_S128x8x64x4_1_0_2_3) transposes_S128x8x64x4_S128x8x4x64_0_1_3_2) (ix4 j a p t)
      = x (ix3 a (⟨64 * j + t, by omega⟩ : Fin 8192) p) := by
  pointwise []
  exact congrArg (fun i : Fin 8192 => x (ix3 a i p)) (Fin.ext (by show j.val * 64 + t.val = 64 * j.val + t.val; omega))
/-- The input gates. -/
theorem layI (x : FVec Ideal S8x8192x128 .f32) (a : Fin 8) (r : Fin 8192) (p : Fin 4) :
    extractStridedSlice S8x8192x4 ![0, 0, 0] x slices_S8x8192x128_S8x8192x4_0_0_0 (ix3 a r p) = x (ix3 a r ⟨p, by omega⟩) := by
  pointwise []
/-- The forget gates. -/
theorem layF (x : FVec Ideal S8x8192x128 .f32) (a : Fin 8) (r : Fin 8192) (p : Fin 4) :
    extractStridedSlice S8x8192x4 ![0, 0, 4] x slices_S8x8192x128_S8x8192x4_0_0_4 (ix3 a r p) = x (ix3 a r ⟨4 + p, by omega⟩) := by
  pointwise []

end Cert.CellRef
end
-- ==== Proof.CellRef.lean ====
module
public import proofs.«01_k».proof.Proof.Gen.ReferenceIdeal
public import proofs.«01_k».proof.Proof.Gen.ReferenceIdeal.Run
public import proofs.«01_k».proof.Proof.CellHost

@[expose] public section
noncomputable section
set_option maxRecDepth 16384

namespace Cert.CellRef
open Cert.ReferenceIdeal Cert.ReferenceIdeal.Gen Cert.ReferenceIdeal.Value Idealize.ShloMosaic Idealize.ShloMosaic.TcCoe Idealize.SL.Sem
open Cert.Mlstm

/-! One trip of the reference's loop, in the chunk's operations. -/

section Trip
variable (V : Valuation τ sig (Elt Ideal)) (a : Fin 8) (p : Fin 4)

/-- The chunk's queries. -/
def q5 (t : Fin 64) (d : Fin 512) : EReal := res_main_while0b_v74 V (ix4 a p t d)
/-- The chunk's keys. -/
def k5 (t : Fin 64) (d : Fin 512) : EReal := res_main_while0b_v75 V (ix4 a p t d)
/-- The chunk's values. -/
def v5 (t : Fin 64) (d : Fin 512) : EReal := res_main_while0b_v76 V (ix4 a p t d)
/-- The chunk's input gates. -/
def i5 (t : Fin 64) : EReal := res_main_while0b_v77 V (ix3 a p t)
/-- The chunk's cumulative forget gates. -/
def b5 (t : Fin 64) : EReal := res_main_while0b_v79 V (ix3 a p t)
/-- The carried stabiliser. -/
def m5 : EReal := (V (Proc.devRef .tc main_v31_9) : FVec Ideal S8x4 .f32) (ix2 a p)
/-- The carried matrix memory. -/
def C5 (d e : Fin 512) : EReal := (V (Proc.devRef .tc main_v31_7) : FVec Ideal S8x4x512x512 .f32) (ix4 a p d e)
/-- The carried normaliser memory. -/
def n5 (d : Fin 512) : EReal := (V (Proc.devRef .tc main_v31_8) : FVec Ideal S8x4x512 .f32) (ix3 a p d)
/-- The carried mask is the lower triangle. -/
def Mask : Prop := ∀ t s : Fin 64, (V (Proc.devRef .tc main_v31_5) : IVec S64x64 1) (ix2 t s) = IntOp.cmpi .sge (BitVec.ofNat 32 (t : ℕ)) (BitVec.ofNat 32 (s : ℕ))

theorem r120 : res_main_while0b_v120 V (ix2 a p) = b5 V a p 63 := by
  unfold b5
  pointwise [res_main_while0b_v120]
theorem r88 (hm : Mask V) (t s : Fin 64) : res_main_while0b_v88 V (ix4 a p t s) = logD (i5 V a p) (b5 V a p) t s := by
  unfold logD i5 b5
  unfold res_main_while0b_v88
  simp only [id]
  pointwise [hm]
  rw [hm]
  rw [ninf]
  exact tri_sel t s _ _
theorem r91 (t : Fin 64) : res_main_while0b_v91 V (ix3 a p t) = b5 V a p t + m5 V a p := by
  unfold m5 b5
  pointwise [res_main_while0b_v91]
theorem r93 (hm : Mask V) (t : Fin 64) : res_main_while0b_v93 V (ix3 a p t) = mT (i5 V a p) (b5 V a p) (m5 V a p) t := by
  unfold mT
  show max (Host.reduce FloatOps.maximumf (res_main_while0b_v88 V) (constant S_ .f32 0xFF800000#32) reducesTo_S8x4x64x64_S8x4x64_d3 h_S_ (ix3 a p t)) (res_main_while0b_v91 V (ix3 a p t)) = _
  rw [max4_at, r91]
  simp only [r88 V a p hm]
theorem r99 (hm : Mask V) (t s : Fin 64) : res_main_while0b_v99 V (ix4 a p t s) = sE (q5 V a p) (k5 V a p) (i5 V a p) (b5 V a p) (m5 V a p) t s := by
  unfold sE
  pointwise [res_main_while0b_v99]
  rw [r88 V a p hm, r93 V a p hm]
  rfl
theorem r101 (hm : Mask V) (t : Fin 64) : res_main_while0b_v101 V (ix3 a p t) = dcE (i5 V a p) (b5 V a p) (m5 V a p) t := by
  unfold dcE
  pointwise [res_main_while0b_v101]
  rw [r91, r93 V a p hm]
theorem r124 (s : Fin 64) : res_main_while0b_v124 V (ix3 a p s) = b5 V a p 63 - b5 V a p s + i5 V a p s := by
  pointwise [res_main_while0b_v124]
  rw [r120]
  rfl
theorem r127 : res_main_while0b_v127 V (ix2 a p) = mN (i5 V a p) (b5 V a p) (b5 V a p 63) (m5 V a p) := by
  unfold mN
  refine congrArg₂ (max : EReal → EReal → EReal) (congrArg (fun x : EReal => x + m5 V a p) (r120 V a p))
    ((max3_at (res_main_while0b_v124 V) reducesTo_S8x4x64_S8x4_d2 h_S_ a p).trans ?_)
  simp only [r124]
theorem r131 (s : Fin 64) : res_main_while0b_v131 V (ix3 a p s) = wE (i5 V a p) (b5 V a p) (b5 V a p 63) (m5 V a p) s := by
  unfold wE
  pointwise [res_main_while0b_v131]
  rw [r124, r127]
theorem r134 : res_main_while0b_v134 V (ix2 a p) = crE (i5 V a p) (b5 V a p) (b5 V a p 63) (m5 V a p) := by
  unfold crE
  pointwise [res_main_while0b_v134]
  rw [r120, r127]
  rfl

theorem step9 : (step_main_v31_9 V : FVec Ideal S8x4 .f32) (ix2 a p) = mN (i5 V a p) (b5 V a p) (b5 V a p 63) (m5 V a p) := r127 V a p
theorem step7 (d e : Fin 512) : (step_main_v31_7 V : FVec Ideal S8x4x512x512 .f32) (ix4 a p d e)
    = crE (i5 V a p) (b5 V a p) (b5 V a p 63) (m5 V a p) * C5 V a p d e
      + ∑ s, wE (i5 V a p) (b5 V a p) (b5 V a p 63) (m5 V a p) s * k5 V a p s d * v5 V a p s e := by
  unfold step_main_v31_7 C5 k5 v5
  simp only [id]
  pointwise []
  rw [r134]
  simp only [r131]
theorem step8 (d : Fin 512) : (step_main_v31_8 V : FVec Ideal S8x4x512 .f32) (ix3 a p d)
    = crE (i5 V a p) (b5 V a p) (b5 V a p 63) (m5 V a p) * n5 V a p d
      + ∑ s, wE (i5 V a p) (b5 V a p) (b5 V a p 63) (m5 V a p) s * k5 V a p s d := by
  unfold step_main_v31_8 n5 k5
  simp only [id]
  pointwise []
  rw [r134]
  simp only [r131]

variable {j : Fin 128} (h6 : (V (Proc.devRef .tc main_v31_6) : IVec S_ 32) = fun _ => BitVec.ofNat 32 j.val)
include h6

theorem start5 : ∀ b : Fin 5, (((![V (Proc.devRef .tc main_v31_6), constantI S_ 32 0#32, constantI S_ 32 0#32, constantI S_ 32 0#32, constantI S_ 32 0#32] : Fin 5 → (⟨S_, .i32⟩ : BufTy).Contents (Elt Ideal))) b (Shape.Idx.first h_S_)).toInt
    = ((![j.val, 0, 0, 0, 0] : Fin 5 → ℕ) b : ℤ) := by
  intro b
  match b with
  | ⟨0, _⟩ => exact (congrArg (fun f : IVec S_ 32 => (f (Shape.Idx.first h_S_)).toInt) h6).trans (word_toInt j)
  | ⟨1, _⟩ => rfl
  | ⟨2, _⟩ => rfl
  | ⟨3, _⟩ => rfl
  | ⟨4, _⟩ => rfl
theorem start4 : ∀ b : Fin 4, (((![V (Proc.devRef .tc main_v31_6), constantI S_ 32 0#32, constantI S_ 32 0#32, constantI S_ 32 0#32] : Fin 4 → (⟨S_, .i32⟩ : BufTy).Contents (Elt Ideal))) b (Shape.Idx.first h_S_)).toInt
    = ((![j.val, 0, 0, 0] : Fin 4 → ℕ) b : ℤ) := by
  intro b
  match b with
  | ⟨0, _⟩ => exact (congrArg (fun f : IVec S_ 32 => (f (Shape.Idx.first h_S_)).toInt) h6).trans (word_toInt j)
  | ⟨1, _⟩ => rfl
  | ⟨2, _⟩ => rfl
  | ⟨3, _⟩ => rfl

theorem q5_eq (t : Fin 64) (d : Fin 512) : q5 V a p t d = (V (Proc.devRef .tc main_v31_0) : FVec Ideal S128x8x4x64x512 .f32) (ix5 j a p t d) := by
  unfold q5 res_main_while0b_v74
  rw [← slice5_at (V (Proc.devRef .tc main_v31_0) : FVec Ideal S128x8x4x64x512 .f32) _ sliceFits_S128x8x4x64x512_S1x8x4x64x512 j (start5 V h6) 0 a p t d]
  generalize Host.dynamicSlice _ _ _ _ = x
  pointwise []
theorem k5_eq (t : Fin 64) (d : Fin 512) : k5 V a p t d = (V (Proc.devRef .tc main_v31_1) : FVec Ideal S128x8x4x64x512 .f32) (ix5 j a p t d) := by
  unfold k5 res_main_while0b_v75
  rw [← slice5_at (V (Proc.devRef .tc main_v31_1) : FVec Ideal S128x8x4x64x512 .f32) _ sliceFits_S128x8x4x64x512_S1x8x4x64x512 j (start5 V h6) 0 a p t d]
  generalize Host.dynamicSlice _ _ _ _ = x
  pointwise []
theorem v5_eq (t : Fin 64) (d : Fin 512) : v5 V a p t d = (V (Proc.devRef .tc main_v31_2) : FVec Ideal S128x8x4x64x512 .f32) (ix5 j a p t d) := by
  unfold v5 res_main_while0b_v76
  rw [← slice5_at (V (Proc.devRef .tc main_v31_2) : FVec Ideal S128x8x4x64x512 .f32) _ sliceFits_S128x8x4x64x512_S1x8x4x64x512 j (start5 V h6) 0 a p t d]
  generalize Host.dynamicSlice _ _ _ _ = x
  pointwise []
theorem i5_eq (t : Fin 64) : i5 V a p t = (V (Proc.devRef .tc main_v31_3) : FVec Ideal S128x8x4x64 .f32) (ix4 j a p t) := by
  unfold i5 res_main_while0b_v77
  rw [← slice4_at (V (Proc.devRef .tc main_v31_3) : FVec Ideal S128x8x4x64 .f32) _ sliceFits_S128x8x4x64_S1x8x4x64 j (start4 V h6) 0 a p t]
  generalize Host.dynamicSlice _ _ _ _ = x
  pointwise []
theorem b5_eq (f : ℕ → ℝ) (hf : ∀ s : Fin 64, (V (Proc.devRef .tc main_v31_4) : FVec Ideal S128x8x4x64 .f32) (ix4 j a p s) = ((f s : ℝ) : EReal)) (t : Fin 64) :
    b5 V a p t = ((∑ r ∈ Finset.range (t.val + 1), f r : ℝ) : EReal) := by
  unfold b5 res_main_while0b_v79
  refine cumsum_at _ _ (fun i => by pointwise []) _ _ a p t f fun s => ?_
  rw [← hf s, ← slice4_at (V (Proc.devRef .tc main_v31_4) : FVec Ideal S128x8x4x64 .f32) _ sliceFits_S128x8x4x64_S1x8x4x64 j (start4 V h6) 0 a p s]
  generalize Host.dynamicSlice _ _ _ _ = x
  pointwise []

theorem step10 (hm : Mask V) (i : Fin 128) (t : Fin 64) (e : Fin 512) : (step_main_v31_10 V : FVec Ideal S128x8x4x64x512 .f32) (ix5 i a p t e)
    = if i = j then Ideal.div (numE (q5 V a p) (k5 V a p) (v5 V a p) (i5 V a p) (b5 V a p) (m5 V a p) (C5 V a p) t e)
        (magE (q5 V a p) (k5 V a p) (i5 V a p) (b5 V a p) (m5 V a p) (n5 V a p) t)
      else (V (Proc.devRef .tc main_v31_10) : FVec Ideal S128x8x4x64x512 .f32) (ix5 i a p t e) := by
  unfold step_main_v31_10
  refine (update5_at _ _ _ _ j (start5 V h6) i a p t e).trans ?_
  split_ifs with hi
  swap
  · rfl
  unfold numE magE denE C5 n5 v5 q5
  pointwise []
  simp only [r99 V a p hm, r101 V a p hm, r93 V a p hm]
  rfl
end Trip

section Loop
variable (Q K W : Fin 8 → Fin 4 → ℕ → Fin 512 → ℝ) (I G : Fin 8 → Fin 4 → ℕ → ℝ)

/-- The loop starts from real data laid out in chunks, the triangle and zero memories. -/
structure Entry (V : Valuation τ sig (Elt Ideal)) : Prop where
  e0 : ∀ (j : Fin 128) a p (t : Fin 64) d, (V (Proc.devRef .tc main_v31_0) : FVec Ideal S128x8x4x64x512 .f32) (ix5 j a p t d) = ((Q a p (64 * j + t) d : ℝ) : EReal)
  e1 : ∀ (j : Fin 128) a p (t : Fin 64) d, (V (Proc.devRef .tc main_v31_1) : FVec Ideal S128x8x4x64x512 .f32) (ix5 j a p t d) = ((K a p (64 * j + t) d : ℝ) : EReal)
  e2 : ∀ (j : Fin 128) a p (t : Fin 64) d, (V (Proc.devRef .tc main_v31_2) : FVec Ideal S128x8x4x64x512 .f32) (ix5 j a p t d) = ((W a p (64 * j + t) d : ℝ) : EReal)
  e3 : ∀ (j : Fin 128) a p (t : Fin 64), (V (Proc.devRef .tc main_v31_3) : FVec Ideal S128x8x4x64 .f32) (ix4 j a p t) = ((I a p (64 * j + t) : ℝ) : EReal)
  e4 : ∀ (j : Fin 128) a p (t : Fin 64), (V (Proc.devRef .tc main_v31_4) : FVec Ideal S128x8x4x64 .f32) (ix4 j a p t) = ((G a p (64 * j + t) : ℝ) : EReal)
  e5 : Mask V
  e6 : (V (Proc.devRef .tc main_v31_6) : IVec S_ 32) = fun _ => 0#32
  e7 : ∀ a p d e, C5 V a p d e = 0
  e8 : ∀ a p d, n5 V a p d = 0
  e9 : ∀ a p, m5 V a p = 0

variable {Q K W I G}

/-- What holds before each trip. -/
structure Inv (V₀ V : Valuation τ sig (Elt Ideal)) (j : ℕ) : Prop where
  k0 : V (Proc.devRef .tc main_v31_0) = V₀ (Proc.devRef .tc main_v31_0)
  k1 : V (Proc.devRef .tc main_v31_1) = V₀ (Proc.devRef .tc main_v31_1)
  k2 : V (Proc.devRef .tc main_v31_2) = V₀ (Proc.devRef .tc main_v31_2)
  k3 : V (Proc.devRef .tc main_v31_3) = V₀ (Proc.devRef .tc main_v31_3)
  k4 : V (Proc.devRef .tc main_v31_4) = V₀ (Proc.devRef .tc main_v31_4)
  k5 : V (Proc.devRef .tc main_v31_5) = V₀ (Proc.devRef .tc main_v31_5)
  k6 : (V (Proc.devRef .tc main_v31_6) : IVec S_ 32) = fun _ => BitVec.ofNat 32 j
  st : ∀ a p, State (K a p) (W a p) (I a p) (G a p) (m5 V a p) (C5 V a p) (n5 V a p) (64 * j)
  out : ∀ i : Fin 128, i.val < j → ∀ a p (t : Fin 64) e, (V (Proc.devRef .tc main_v31_10) : FVec Ideal S128x8x4x64x512 .f32) (ix5 i a p t e)
    = ((hout (Q a p) (K a p) (W a p) (I a p) (G a p) (64 * i + t) e : ℝ) : EReal)

/-- A trip's slices hold a chunk of real data. -/
theorem chunk5 {V₀ V : Valuation τ sig (Elt Ideal)} {j : Fin 128} (h₀ : Entry Q K W I G V₀) (h : Inv (Q := Q) (K := K) (W := W) (I := I) (G := G) V₀ V j) (a : Fin 8) (p : Fin 4) :
    Chunk (Q a p) (K a p) (W a p) (I a p) (G a p) (q5 V a p) (k5 V a p) (v5 V a p) (i5 V a p) (b5 V a p) (b5 V a p 63) (64 * j) := by
  have hb : ∀ t : Fin 64, b5 V a p t = ((S (G a p) (64 * j + t + 1) - S (G a p) (64 * j) : ℝ) : EReal) := fun t => by
    rw [b5_eq V a p h.k6 (fun r => G a p (64 * j + r)) (fun s => by rw [h.k4]; exact h₀.e4 j a p s)]
    unfold S
    rw [show 64 * j.val + (t : ℕ) + 1 = 64 * j.val + (t + 1) by ring, Finset.sum_range_add _ (64 * j.val) (t + 1)]
    congr 1; ring
  refine ⟨fun t d => ?_, fun t d => ?_, fun t d => ?_, fun t => ?_, hb, hb 63⟩
  · rw [q5_eq V a p h.k6, h.k0]; exact h₀.e0 j a p t d
  · rw [k5_eq V a p h.k6, h.k1]; exact h₀.e1 j a p t d
  · rw [v5_eq V a p h.k6, h.k2]; exact h₀.e2 j a p t d
  · rw [i5_eq V a p h.k6, h.k3]; exact h₀.e3 j a p t

/-- A trip keeps the invariant. -/
theorem inv_step {V₀ V : Valuation τ sig (Elt Ideal)} {j : Fin 128} (h₀ : Entry Q K W I G V₀) (h : Inv (Q := Q) (K := K) (W := W) (I := I) (G := G) V₀ V j) :
    Inv (Q := Q) (K := K) (W := W) (I := I) (G := G) V₀ (STEP V) (j + 1) := by
  have hm : Mask V := fun t s => by rw [h.k5]; exact h₀.e5 t s
  refine ⟨?_, ?_, ?_, ?_, ?_, ?_, ?_, fun a p => ?_, fun i hi a p t e => ?_⟩
  · rw [STEP_main_v31_0, h.k0]
  · rw [STEP_main_v31_1, h.k1]
  · rw [STEP_main_v31_2, h.k2]
  · rw [STEP_main_v31_3, h.k3]
  · rw [STEP_main_v31_4, h.k4]
  · rw [STEP_main_v31_5, h.k5]
  · rw [STEP_main_v31_6]
    unfold step_main_v31_6
    funext x
    refine (congrArg (fun f : IVec S_ 32 => f x + 1#32) h.k6).trans ?_
    show BitVec.ofNat 32 j.val + 1#32 = _
    rw [BitVec.ofNat_add]
  · have hs := state_step' (by norm_num) (chunk5 h₀ h a p) (h.st a p)
    have em : m5 (STEP V) a p = mN (i5 V a p) (b5 V a p) (b5 V a p 63) (m5 V a p) := by
      unfold m5; rw [STEP_main_v31_9]; exact step9 V a p
    have eC : C5 (STEP V) a p = fun d e => crE (i5 V a p) (b5 V a p) (b5 V a p 63) (m5 V a p) * C5 V a p d e
        + ∑ s, wE (i5 V a p) (b5 V a p) (b5 V a p 63) (m5 V a p) s * k5 V a p s d * v5 V a p s e := by
      funext d e; show (STEP V (Proc.devRef .tc main_v31_7) : FVec Ideal S8x4x512x512 .f32) (ix4 a p d e) = _
      rw [STEP_main_v31_7]; exact step7 V a p d e
    have en : n5 (STEP V) a p = fun d => crE (i5 V a p) (b5 V a p) (b5 V a p 63) (m5 V a p) * n5 V a p d
        + ∑ s, wE (i5 V a p) (b5 V a p) (b5 V a p 63) (m5 V a p) s * k5 V a p s d := by
      funext d; show (STEP V (Proc.devRef .tc main_v31_8) : FVec Ideal S8x4x512 .f32) (ix3 a p d) = _
      rw [STEP_main_v31_8]; exact step8 V a p d
    rw [em, eC, en, show 64 * (j.val + 1) = 64 * j.val + 64 by ring]
    exact hs
  · rw [STEP_main_v31_10]
    refine (step10 V a p h.k6 hm i t e).trans ?_
    by_cases hij : i = j
    · rw [if_pos hij, out_div (chunk5 h₀ h a p) (h.st a p), hij]
    · rw [if_neg hij]
      exact h.out i (by have := Fin.val_ne_of_ne hij; omega) a p t e

/-- Before every trip, the invariant. -/
theorem inv_all {V₀ : Valuation τ sig (Elt Ideal)} (h₀ : Entry Q K W I G V₀) : ∀ j : ℕ, j ≤ 128 →
    Inv (Q := Q) (K := K) (W := W) (I := I) (G := G) V₀ (STEP^[j] V₀) j := by
  intro j
  induction j with
  | zero =>
    intro _
    refine ⟨rfl, rfl, rfl, rfl, rfl, rfl, h₀.e6, fun a p => ?_, fun i hi => absurd hi (Nat.not_lt_zero _)⟩
    have e7 : C5 V₀ a p = fun _ _ => 0 := funext fun d => funext fun e => h₀.e7 a p d e
    have e8 : n5 V₀ a p = fun _ => 0 := funext fun d => h₀.e8 a p d
    show State _ _ _ _ (m5 V₀ a p) (C5 V₀ a p) (n5 V₀ a p) 0
    rw [h₀.e9, e7, e8]
    exact state_zero _ _ _ _
  | succ j ih =>
    intro hj
    rw [Function.iterate_succ_apply']
    exact inv_step (j := ⟨j, hj⟩) h₀ (ih (by omega))
end Loop

end Cert.CellRef
end
-- ==== Proof.CellArr.lean ====
module
public import proofs.«01_k».proof.Proof.CellKernel

@[expose] public section
noncomputable section
set_option maxRecDepth 16384

namespace Cert.Cell
open Cert.KernelIdeal Cert.KernelIdeal.Gen Idealize.ShloMosaic Idealize.ShloMosaic.TcCoe Idealize.SL.Sem
open Idealize.ShloMosaic.Pipeline (Dat)
open Cert.Mlstm

/-- The word of a position not after another is one, of a later one zero. -/
theorem tri_word (t x : Fin 256) :
    (FloatOps.sitofp (F := Ideal) FTy.f32 (BitVec.setWidth 32 (IntOp.cmpi CmpIPredicate.sge (BitVec.ofNat 32 (t : ℕ)) (BitVec.ofNat 32 (x : ℕ)))) : EReal)
      = if x ≤ t then ((1 : ℝ) : EReal) else ((0 : ℝ) : EReal) := by
  rw [WordCmp.cmpi_sge_ofNat (by have := t.isLt; omega) (by have := x.isLt; omega)]
  by_cases h : x ≤ t
  · rw [if_pos h, decide_eq_true (Fin.le_def.1 h)]
    show (((BitVec.setWidth 32 (BitVec.ofBool true)).toInt : ℝ) : EReal) = _
    rw [show (BitVec.setWidth 32 (BitVec.ofBool true)).toInt = 1 by decide]
    norm_num
  · rw [if_neg h, decide_eq_false (mt Fin.le_def.2 h)]
    show (((BitVec.setWidth 32 (BitVec.ofBool false)).toInt : ℝ) : EReal) = _
    rw [show (BitVec.setWidth 32 (BitVec.ofBool false)).toInt = 0 by decide]
    norm_num

/-- A sum of reals up to a position, each weighted by its word. -/
theorem tri_sum (t : Fin 256) (f : ℕ → ℝ) :
    (∑ x : Fin 256, (FloatOps.sitofp (F := Ideal) FTy.f32 (BitVec.setWidth 32 (IntOp.cmpi CmpIPredicate.sge (BitVec.ofNat 32 (t : ℕ)) (BitVec.ofNat 32 (x : ℕ)))) : EReal)
      * ((f x : ℝ) : EReal)) = ((∑ r ∈ Finset.range (t + 1), f r : ℝ) : EReal) := by
  rw [← sum_le t f, coe_sum]
  refine Finset.sum_congr rfl fun x _ => ?_
  rw [tri_word]
  split_ifs
  · rw [← EReal.coe_mul, one_mul]
  · rw [← EReal.coe_mul, zero_mul]

/-- The cumulative forget gates of real gates. -/
theorem pay6_at (X : Vec Ideal S256x128 .f32) (j : Fin 128) (γ : ℕ → ℝ) (T : ℕ) (hX : ∀ s : Fin 256, X (ix2 s j) = ((γ (T + s) : ℝ) : EReal)) (t : Fin 256) :
    k0_pay6 (F := Ideal) X (ix2 t j) = ((S (fun r => lsig (γ r)) (T + t + 1) - S (fun r => lsig (γ r)) T : ℝ) : EReal) := by
  have hl : ∀ x : Fin 256, (min ((γ (T + x) : ℝ) : EReal) 0 - Ideal.log (1 + Ideal.exp (0 - FloatOps.absf (F := Ideal) (φ := .f32) ((γ (T + x) : ℝ) : EReal))))
      = ((lsig (γ (T + x)) : ℝ) : EReal) := fun x => lsig_min _
  pointwise [k0_pay6, k0_pay5]
  simp only [hX, hl, ← EReal.coe_sub, sub_self]
  rw [tri_sum t (fun x => lsig (γ (T + x))), tri_sum t (fun _ => 0)]
  simp only [Finset.sum_const_zero, EReal.coe_zero, add_zero]
  unfold S
  rw [show T + (t : ℕ) + 1 = T + (t + 1) by ring, Finset.sum_range_add _ T (t + 1)]
  congr 1; ring

section Data
variable (q k v xc : Vec Ideal S65536x2048 .bf16) (proj : Vec Ideal S65536x6144 .f32) (g : Vec Ideal S65536x128 .f32) (hn sk : Vec Ideal S1x2048 .f32)

/-- The row of position `t` of sequence `b`. -/
def rowN (b t : ℕ) : Fin 65536 := ⟨(8192 * b + t) % 65536, Nat.mod_lt _ (by norm_num)⟩
/-- A head's real entries of an array, by position. -/
def arr (b : ℕ) (p : Fin 4) (t : ℕ) (d : Fin 512) : ℝ := EReal.toReal (q (ix2 (rowN b t) (col p d)))
/-- A head's real input gates. -/
def gateI (b : ℕ) (p : Fin 4) (t : ℕ) : ℝ := EReal.toReal (g (ix2 (rowN b t) (gi p)))
/-- A head's log forget gates. -/
def gateF (b : ℕ) (p : Fin 4) (t : ℕ) : ℝ := lsig (EReal.toReal (g (ix2 (rowN b t) (gf p))))

/-- The queries, keys, values and gates are real. -/
structure Reals : Prop where
  q : ∀ i, IsReal (q i)
  k : ∀ i, IsReal (k i)
  v : ∀ i, IsReal (v i)
  g : ∀ (r : Fin 65536) (j : Fin 128), j.val < 8 → IsReal (g (ix2 r j))

/-- The layer's output: the unstabilised recurrence, gated, normalised over the head, and gated again. -/
def outR (b t : ℕ) (p : Fin 4) (e : Fin 512) : EReal :=
  tail (fun e => ((hout (arr q b p) (arr k b p) (arr v b p) (gateI g b p) (gateF g b p) t e : ℝ) : EReal))
    (fun e => proj (ix2 (rowN b t) ⟨2048 + (col p e).val, by have := (col p e).isLt; omega⟩)) (fun e => hn (ix2 (0 : Fin 1) (col p e)))
    (fun e => sk (ix2 (0 : Fin 1) (col p e))) (fun e => xc (ix2 (rowN b t) (col p e)))
    (fun e => proj (ix2 (rowN b t) ⟨4096 + (col p e).val, by have := (col p e).isLt; omega⟩)) e

/-- The same as an array. -/
def OUT : Vec Ideal S65536x2048 .bf16 := fun i =>
  outR q k v xc proj g hn sk ((i 0).val / 8192) ((i 0).val % 8192) ⟨(i 1).val / 512 % 4, Nat.mod_lt _ (by norm_num)⟩ ⟨(i 1).val % 512, Nat.mod_lt _ (by norm_num)⟩
end Data

theorem coe_toReal {x : EReal} (h : IsReal x) : x = ((x.toReal : ℝ) : EReal) := by
  obtain ⟨r, rfl⟩ := h; rw [EReal.toReal_coe]

variable (m : (ℓ : Loc nD τ sig) → Buf (Elt Ideal) ℓ)
/-- The blocks of the windows, at every grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 1] ∧ win0_5.index t = ![t.val, 2] ∧ win0_6.index t = ![t.val, 0]
    ∧ win0_7.index t = ![0, 0] ∧ win0_8.index t = ![0, 0] ∧ win0_9.index t = ![t.val, 0] :=
  (by decide +kernel : ∀ t : Fin grid0.N, _)

section Blocks
variable (c : Dev nD) (t : Fin cfg0.N) (s : Fin 256)

/-- The row of the arrays at row `s` of grid point `t`'s blocks. -/
abbrev rwt : Fin 65536 := rowN (t.val / 32) (256 * (t.val % 32) + s.val)
theorem rwt_val : (rwt t s).val = t.val * 256 + s.val := by
  have := lt_of_lt_of_eq t.isLt N_0; have := s.isLt
  show (8192 * (t.val / 32) + (256 * (t.val % 32) + s.val)) % 65536 = _
  omega

theorem blk0 (e : Fin 2048) : (iblk m c 0 t : Vec Ideal S256x2048 .bf16) (ix2 s e) = (m ((c : Thread nD τ).loc main_arg0) : Vec Ideal S65536x2048 .bf16) (ix2 (rwt t s) e) := by
  blk_point [iblk, V, idx t] <;> exact (rwt_val t s).symm
theorem blk1 (e : Fin 2048) : (iblk m c 1 t : Vec Ideal S256x2048 .bf16) (ix2 s e) = (m ((c : Thread nD τ).loc main_arg1) : Vec Ideal S65536x2048 .bf16) (ix2 (rwt t s) e) := by
  blk_point [iblk, V, idx t] <;> exact (rwt_val t s).symm
theorem blk2 (e : Fin 2048) : (iblk m c 2 t : Vec Ideal S256x2048 .bf16) (ix2 s e) = (m ((c : Thread nD τ).loc main_arg2) : Vec Ideal S65536x2048 .bf16) (ix2 (rwt t s) e) := by
  blk_point [iblk, V, idx t] <;> exact (rwt_val t s).symm
theorem blk3 (e : Fin 2048) : (iblk m c 3 t : Vec Ideal S256x2048 .bf16) (ix2 s e) = (m ((c : Thread nD τ).loc main_arg3) : Vec Ideal S65536x2048 .bf16) (ix2 (rwt t s) e) := by
  blk_point [iblk, V, idx t] <;> exact (rwt_val t s).symm
theorem blk4 (e : Fin 2048) : (iblk m c 4 t : Vec Ideal S256x2048 .f32) (ix2 s e) = (m ((c : Thread nD τ).loc main_arg4) : Vec Ideal S65536x6144 .f32) (ix2 (rwt t s) ⟨2048 + e.val, by have := e.isLt; omega⟩) := by
  blk_point [iblk, V, idx t] <;> exact (rwt_val t s).symm
theorem blk5 (e : Fin 2048) : (iblk m c 5 t : Vec Ideal S256x2048 .f32) (ix2 s e) = (m ((c : Thread nD τ).loc main_arg4) : Vec Ideal S65536x6144 .f32) (ix2 (rwt t s) ⟨4096 + e.val, by have := e.isLt; omega⟩) := by
  blk_point [iblk, V, idx t] <;> exact (rwt_val t s).symm
theorem blk6 (j : Fin 128) : (iblk m c 6 t : Vec Ideal S256x128 .f32) (ix2 s j) = (m ((c : Thread nD τ).loc main_arg5) : Vec Ideal S65536x128 .f32) (ix2 (rwt t s) j) := by
  blk_point [iblk, V, idx t] <;> exact (rwt_val t s).symm
theorem blk7 (e : Fin 2048) : (iblk m c 7 t : Vec Ideal S1x2048 .f32) (ix2 (0 : Fin 1) e) = (m ((c : Thread nD τ).loc main_arg6) : Vec Ideal S1x2048 .f32) (ix2 (0 : Fin 1) e) := by
  blk_point [iblk, V, idx t]
theorem blk8 (e : Fin 2048) : (iblk m c 8 t : Vec Ideal S1x2048 .f32) (ix2 (0 : Fin 1) e) = (m ((c : Thread nD τ).loc main_arg7) : Vec Ideal S1x2048 .f32) (ix2 (0 : Fin 1) e) := by
  blk_point [iblk, V, idx t]
end Blocks

/-- The zero memories are the state before the first position. -/
theorem zero0 (K V : ℕ → Fin 512 → ℝ) (I G : ℕ → ℝ) (p : Fin 4) :
    State K V I G (k0_pay4 (F := Ideal) (ix2 (row8 p) (0 : Fin 128))) (fun d e => k0_pay2 (F := Ideal) (ix3 p d e)) (fun d => k0_pay3 (F := Ideal) (ix2 (row8 p) d)) (256 * 0) := by
  have e4 : k0_pay4 (F := Ideal) (ix2 (row8 p) (0 : Fin 128)) = 0 := by pointwise [k0_pay4]
  have e2 : ∀ d e, k0_pay2 (F := Ideal) (ix3 p d e) = 0 := fun d e => by pointwise [k0_pay2]
  have e3 : ∀ d, k0_pay3 (F := Ideal) (ix2 (row8 p) d) = 0 := fun d => by pointwise [k0_pay3]
  simp only [e2, e3, e4]
  exact state_zero K V I G

section Run
variable (c : Dev nD)
/-- The argument of queries. -/
abbrev aq : Vec Ideal S65536x2048 .bf16 := m ((c : Thread nD τ).loc main_arg0)
/-- The argument of keys. -/
abbrev ak : Vec Ideal S65536x2048 .bf16 := m ((c : Thread nD τ).loc main_arg1)
/-- The argument of values. -/
abbrev av : Vec Ideal S65536x2048 .bf16 := m ((c : Thread nD τ).loc main_arg2)
/-- The argument of gates. -/
abbrev ag : Vec Ideal S65536x128 .f32 := m ((c : Thread nD τ).loc main_arg5)

/-- A grid point's blocks hold a chunk of real data. -/
theorem chunk (h : Reals (aq m c) (ak m c) (av m c) (ag m c)) (t : Fin cfg0.N) (p : Fin 4) :
    Chunk (arr (aq m c) (t.val / 32) p) (arr (ak m c) (t.val / 32) p) (arr (av m c) (t.val / 32) p) (gateI (ag m c) (t.val / 32) p) (gateF (ag m c) (t.val / 32) p)
      (hd (iblk m c 0 t) p) (hd (iblk m c 1 t) p) (hd (iblk m c 2 t) p) (ivh (iblk m c 6 t) p) (bh (iblk m c 6 t) p) (blh (iblk m c 6 t) p)
      (256 * (t.val % 32)) := by
  have hp := p.isLt
  have hg : ∀ s : Fin 256, (iblk m c 6 t : Vec Ideal S256x128 .f32) (ix2 s (gf p)) = ((EReal.toReal ((ag m c) (ix2 (rowN (t.val / 32) (256 * (t.val % 32) + s)) (gf p))) : ℝ) : EReal) :=
    fun s => (blk6 m c t s (gf p)).trans (coe_toReal (h.g _ _ (by show 4 + p.val < 8; omega)))
  refine ⟨fun s d => ?_, fun s d => ?_, fun s d => ?_, fun s => ?_, fun s => ?_, ?_⟩
  · exact (blk0 m c t s (col p d)).trans (coe_toReal (h.q _))
  · exact (blk1 m c t s (col p d)).trans (coe_toReal (h.k _))
  · exact (blk2 m c t s (col p d)).trans (coe_toReal (h.v _))
  · exact (blk6 m c t s (gi p)).trans (coe_toReal (h.g _ _ (by show p.val < 8; omega)))
  · exact pay6_at _ (gf p) (fun r => EReal.toReal ((ag m c) (ix2 (rowN (t.val / 32) r) (gf p)))) _ hg s
  · exact pay6_at _ (gf p) (fun r => EReal.toReal ((ag m c) (ix2 (rowN (t.val / 32) r) (gf p)))) _ hg 255

/-- What a grid point starts from is the state before its chunk. -/
def Pre (t : Fin cfg0.N) (p : Fin 4) : Prop :=
  State (arr (ak m c) (t.val / 32) p) (arr (av m c) (t.val / 32) p) (gateI (ag m c) (t.val / 32) p) (gateF (ag m c) (t.val / 32) p)
    (preM m c t (ix2 (row8 p) (0 : Fin 128))) (fun d e => preC m c t (ix3 p d e)) (fun d => preN m c t (ix2 (row8 p) d)) (256 * (t.val % 32))

/-- A grid point leaves the state after its chunk. -/
theorem post (h : Reals (aq m c) (ak m c) (av m c) (ag m c)) (t : Fin cfg0.N) (p : Fin 4) (hs : Pre m c t p) :
    State (arr (ak m c) (t.val / 32) p) (arr (av m c) (t.val / 32) p) (gateI (ag m c) (t.val / 32) p) (gateF (ag m c) (t.val / 32) p)
      ((outsAt0 m c t.val t.isLt).2.2.2 (ix2 (row8 p) (0 : Fin 128))) (fun d e => (outsAt0 m c t.val t.isLt).2.1 (ix3 p d e))
      (fun d => (outsAt0 m c t.val t.isLt).2.2.1 (ix2 (row8 p) d)) (256 * (t.val % 32) + 256) := by
  have hst := state_step (by norm_num) (chunk m c h t p) hs
  rw [pointM]
  simp only [pointC, pointN]
  exact hst

/-- Every grid point starts from the state before its chunk. -/
theorem pre_all (h : Reals (aq m c) (ak m c) (av m c) (ag m c)) (p : Fin 4) : ∀ (n : ℕ) (hn : n < cfg0.N), Pre m c ⟨n, hn⟩ p := by
  intro n
  induction n with
  | zero =>
    intro hn
    unfold Pre preM preC preN
    simp only [Nat.zero_mod, if_true]
    exact zero0 _ _ _ _ _
  | succ n ih =>
    intro hn
    by_cases ht : (n + 1) % 32 = 0
    · unfold Pre preM preC preN
      simp only [ht, if_true]
      exact zero0 _ _ _ _ _
    · have hp := post m c h ⟨n, by omega⟩ p (ih (by omega))
      unfold Pre preM preC preN
      simp only [ht, if_false, Nat.add_sub_cancel]
      have e1 : (n + 1) / 32 = n / 32 := by omega
      have e2 : 256 * ((n + 1) % 32) = 256 * (n % 32) + 256 := by omega
      rw [e1, e2]
      exact hp

/-- What a grid point stores is the layer's output at the place the block has in the array. -/
theorem point (h : Reals (aq m c) (ak m c) (av m c) (ag m c)) (t : Fin cfg0.N) (s : Fin 256) (p : Fin 4) (e : Fin 512) :
    (outsAt0 m c t.val t.isLt).1 (ix2 s (col p e)) = outR (aq m c) (ak m c) (av m c) (m ((c : Thread nD τ).loc main_arg3)) (m ((c : Thread nD τ).loc main_arg4)) (ag m c)
      (m ((c : Thread nD τ).loc main_arg6)) (m ((c : Thread nD τ).loc main_arg7)) (t.val / 32) (256 * (t.val % 32) + s.val) p e := by
  rw [pointO]
  unfold outB outR
  simp only [out_mul (chunk m c h t p) (pre_all m c h p t.val t.isLt), blk4, blk5, blk7, blk8]
  congr 1
  exact funext fun e => blk3 m c t s (col p e)

/-- The kernel's result is the layer's output. -/
theorem final (h : Reals (aq m c) (ak m c) (av m c) (ag m c)) : (dats m 0 c).arrAt 9 (cfgs 0).N
    = OUT (aq m c) (ak m c) (av m c) (m ((c : Thread nD τ).loc main_arg3)) (m ((c : Thread nD τ).loc main_arg4)) (ag m c)
      (m ((c : Thread nD τ).loc main_arg6)) (m ((c : Thread nD τ).loc main_arg7)) := by
  refine (dats m 0 c).arrAt_eq_of_covers 9 _ (by decide +kernel) fun t _ y => ?_
  blk_simp
  rw [after0_9]
  have ht := lt_of_lt_of_eq t.isLt N_0
  obtain ⟨s, e, rfl⟩ : ∃ (s : Fin 256) (e : Fin 2048), y = ix2 s e := ⟨y 0, y 1, eq_ix2 y⟩
  have hs := s.isLt
  have he := e.isLt
  have hp := point m c h t s ⟨e.val / 512 % 4, by omega⟩ ⟨e.val % 512, by omega⟩
  refine Eq.trans (congrArg (fun e : Fin 2048 => (outsAt0 m c t.val t.isLt).1 (ix2 s e)) (Fin.ext ?_)) (hp.trans ?_)
  · show e.val = 512 * (e.val / 512 % 4) + e.val % 512; omega
  · have he : (win0_9.blk t).view.emb (ix2 s e) = ix2 (rwt t s) e := by
      blk_ext [idx t] <;> exact (rwt_val t s).symm
    rw [he]
    have e1 : (rwt t s).val / 8192 = t.val / 32 := by rw [rwt_val]; omega
    have e2 : (rwt t s).val % 8192 = 256 * (t.val % 32) + s.val := by rw [rwt_val]; omega
    show _ = outR _ _ _ _ _ _ _ _ ((rwt t s).val / 8192) ((rwt t s).val % 8192) ⟨e.val / 512 % 4, _⟩ ⟨e.val % 512, _⟩
    rw [e1, e2]
end Run
end Cert.Cell
end
-- ==== Proof.CellEntry.lean ====
module
public import proofs.«01_k».proof.Proof.CellRef
public import proofs.«01_k».proof.Proof.CellArr

@[expose] public section
noncomputable section
set_option maxRecDepth 100000

namespace Cert.CellRef
open Cert.ReferenceIdeal Cert.ReferenceIdeal.Gen Cert.ReferenceIdeal.Value Idealize.ShloMosaic Idealize.ShloMosaic.TcCoe Idealize.SL.Sem
open Cert.Mlstm Idealize.ShloMosaic.Pipeline Idealize.ShloMosaic.StableHlo

variable (m : (ℓ : Loc nD τ sig) → Buf (Elt Ideal) ℓ) (c : Dev nD)

/-- The queries the loop reads. -/
theorem ent0 (j : Fin 128) (a : Fin 8) (p : Fin 4) (t : Fin 64) (d : Fin 512) : (entryContents preI m c (Proc.devRef .tc main_v31_0) : FVec Ideal S128x8x4x64x512 .f32) (ix5 j a p t d)
    = (m ((c.tc : Thread nD τ).loc main_arg0) : FVec Ideal S65536x2048 .bf16) (ix2 (Cert.Cell.rowN a (64 * j + t)) (Cert.Cell.col p d)) := by
  simp only [entryContents, afterL_cons, afterL_nil]
  after_reads_simp
  simp only [id, TRef.ofBuf, TRef.toBuf, cast_eq]
  pointwise []
  exact congrArg₂ (fun (r : Fin 65536) (e : Fin 2048) => (m ((c.tc : Thread nD τ).loc main_arg0) : FVec Ideal S65536x2048 .bf16) (ix2 r e))
    (Fin.ext (by show a.val * 8192 + (j.val * 64 + t.val) = (8192 * a.val + (64 * j.val + t.val)) % 65536; omega))
    (Fin.ext (by show p.val * 512 + d.val = 512 * p.val + d.val; omega))
/-- The keys the loop reads. -/
theorem ent1 (j : Fin 128) (a : Fin 8) (p : Fin 4) (t : Fin 64) (d : Fin 512) : (entryContents preI m c (Proc.devRef .tc main_v31_1) : FVec Ideal S128x8x4x64x512 .f32) (ix5 j a p t d)
    = (m ((c.tc : Thread nD τ).loc main_arg1) : FVec Ideal S65536x2048 .bf16) (ix2 (Cert.Cell.rowN a (64 * j + t)) (Cert.Cell.col p d)) := by
  simp only [entryContents, afterL_cons, afterL_nil]
  after_reads_simp
  simp only [id, TRef.ofBuf, TRef.toBuf, cast_eq]
  pointwise []
  exact congrArg₂ (fun (r : Fin 65536) (e : Fin 2048) => (m ((c.tc : Thread nD τ).loc main_arg1) : FVec Ideal S65536x2048 .bf16) (ix2 r e))
    (Fin.ext (by show a.val * 8192 + (j.val * 64 + t.val) = (8192 * a.val + (64 * j.val + t.val)) % 65536; omega))
    (Fin.ext (by show p.val * 512 + d.val = 512 * p.val + d.val; omega))
/-- The values the loop reads. -/
theorem ent2 (j : Fin 128) (a : Fin 8) (p : Fin 4) (t : Fin 64) (d : Fin 512) : (entryContents preI m c (Proc.devRef .tc main_v31_2) : FVec Ideal S128x8x4x64x512 .f32) (ix5 j a p t d)
    = (m ((c.tc : Thread nD τ).loc main_arg2) : FVec Ideal S65536x2048 .bf16) (ix2 (Cert.Cell.rowN a (64 * j + t)) (Cert.Cell.col p d)) := by
  simp only [entryContents, afterL_cons, afterL_nil]
  after_reads_simp
  simp only [id, TRef.ofBuf, TRef.toBuf, cast_eq]
  pointwise []
  exact congrArg₂ (fun (r : Fin 65536) (e : Fin 2048) => (m ((c.tc : Thread nD τ).loc main_arg2) : FVec Ideal S65536x2048 .bf16) (ix2 r e))
    (Fin.ext (by show a.val * 8192 + (j.val * 64 + t.val) = (8192 * a.val + (64 * j.val + t.val)) % 65536; omega))
    (Fin.ext (by show p.val * 512 + d.val = 512 * p.val + d.val; omega))
/-- The input gates the loop reads. -/
theorem ent3 (j : Fin 128) (a : Fin 8) (p : Fin 4) (t : Fin 64) : (entryContents preI m c (Proc.devRef .tc main_v31_3) : FVec Ideal S128x8x4x64 .f32) (ix4 j a p t)
    = (m ((c.tc : Thread nD τ).loc main_arg5) : FVec Ideal S65536x128 .f32) (ix2 (Cert.Cell.rowN a (64 * j + t)) (Cert.Cell.gi p)) := by
  simp only [entryContents, afterL_cons, afterL_nil]
  after_reads_simp
  simp only [id, TRef.ofBuf, TRef.toBuf, cast_eq]
  refine (layT _ j a p t).trans ((layI _ a _ p).trans ((layG _ a _ _).trans ?_))
  exact congrArg₂ (fun (r : Fin 65536) (e : Fin 128) => (m ((c.tc : Thread nD τ).loc main_arg5) : FVec Ideal S65536x128 .f32) (ix2 r e))
    (Fin.ext (by show 8192 * a.val + (64 * j.val + t.val) = (8192 * a.val + (64 * j.val + t.val)) % 65536; omega)) rfl
/-- The log forget gates the loop reads. -/
theorem ent4 (j : Fin 128) (a : Fin 8) (p : Fin 4) (t : Fin 64) {r : ℝ}
    (hr : (m ((c.tc : Thread nD τ).loc main_arg5) : FVec Ideal S65536x128 .f32) (ix2 (Cert.Cell.rowN a (64 * j + t)) (Cert.Cell.gf p)) = (r : EReal)) :
    (entryContents preI m c (Proc.devRef .tc main_v31_4) : FVec Ideal S128x8x4x64 .f32) (ix4 j a p t) = ((lsig r : ℝ) : EReal) := by
  simp only [entryContents, afterL_cons, afterL_nil]
  after_reads_simp
  simp only [id, TRef.ofBuf, TRef.toBuf, cast_eq]
  refine lf_at _ _ ((layT _ j a p t).trans ((layF _ a _ p).trans ((layG _ a _ _).trans (Eq.trans ?_ hr))))
  exact congrArg₂ (fun (r : Fin 65536) (e : Fin 128) => (m ((c.tc : Thread nD τ).loc main_arg5) : FVec Ideal S65536x128 .f32) (ix2 r e))
    (Fin.ext (by show 8192 * a.val + (64 * j.val + t.val) = (8192 * a.val + (64 * j.val + t.val)) % 65536; omega)) rfl
/-- The mask the loop reads is the lower triangle. -/
theorem ent5 : Mask (entryContents preI m c) := by
  intro t s
  simp only [entryContents, afterL_cons, afterL_nil]
  after_reads_simp
  simp only [id, TRef.ofBuf, TRef.toBuf, cast_eq]
  pointwise []
  have hs : ∀ w : BitVec 1, Scalar.select w 1#1 0#1 = w := by decide
  refine (hs _).trans ?_
  rw [show IntOp.addi (BitVec.ofNat 32 t.val) 0#32 = BitVec.ofNat 32 t.val from BitVec.add_zero _]
/-- The matrix memory starts at zero. -/
theorem ent7 (a : Fin 8) (p : Fin 4) (d e : Fin 512) : C5 (entryContents preI m c) a p d e = 0 := by
  unfold C5
  simp only [entryContents, afterL_cons, afterL_nil]
  after_reads_simp
  simp only [id]
  pointwise []
/-- The normaliser memory starts at zero. -/
theorem ent8 (a : Fin 8) (p : Fin 4) (d : Fin 512) : n5 (entryContents preI m c) a p d = 0 := by
  unfold n5
  simp only [entryContents, afterL_cons, afterL_nil]
  after_reads_simp
  simp only [id]
  pointwise []
/-- The stabiliser starts at zero. -/
theorem ent9 (a : Fin 8) (p : Fin 4) : m5 (entryContents preI m c) a p = 0 := by
  unfold m5
  simp only [entryContents, afterL_cons, afterL_nil]
  after_reads_simp
  simp only [id]
  pointwise []

/-- The argument of queries. -/
abbrev rq : FVec Ideal S65536x2048 .bf16 := m ((c.tc : Thread nD τ).loc main_arg0)
/-- The argument of keys. -/
abbrev rk : FVec Ideal S65536x2048 .bf16 := m ((c.tc : Thread nD τ).loc main_arg1)
/-- The argument of values. -/
abbrev rv : FVec Ideal S65536x2048 .bf16 := m ((c.tc : Thread nD τ).loc main_arg2)
/-- The argument of gates. -/
abbrev rg : FVec Ideal S65536x128 .f32 := m ((c.tc : Thread nD τ).loc main_arg5)

/-- The loop starts from the arguments' real data. -/
theorem entry (h : Cert.Cell.Reals (rq m c) (rk m c) (rv m c) (rg m c)) :
    Entry (fun a p => Cert.Cell.arr (rq m c) a p) (fun a p => Cert.Cell.arr (rk m c) a p) (fun a p => Cert.Cell.arr (rv m c) a p)
      (fun a p => Cert.Cell.gateI (rg m c) a p) (fun a p => Cert.Cell.gateF (rg m c) a p) (entryContents preI m c) where
  e0 j a p t d := (ent0 m c j a p t d).trans (Cert.Cell.coe_toReal (h.q _))
  e1 j a p t d := (ent1 m c j a p t d).trans (Cert.Cell.coe_toReal (h.k _))
  e2 j a p t d := (ent2 m c j a p t d).trans (Cert.Cell.coe_toReal (h.v _))
  e3 j a p t := (ent3 m c j a p t).trans (Cert.Cell.coe_toReal (h.g _ _ (by have := p.isLt; show p.val < 8; omega)))
  e4 j a p t := ent4 m c j a p t (Cert.Cell.coe_toReal (h.g _ _ (by have := p.isLt; show 4 + p.val < 8; omega)))
  e5 := ent5 m c
  e6 := ctr_entry m c
  e7 := ent7 m c
  e8 := ent8 m c
  e9 := ent9 m c

/-- The operations after the loop, at an entry. -/
theorem tail5 (V : Valuation τ sig (Elt Ideal)) (a : Fin 8) (s : Fin 8192) (p : Fin 4) (e : Fin 512) :
    (out_main_v73 V : FVec Ideal S65536x2048 .bf16) (ix2 (⟨8192 * a + s, by omega⟩ : Fin 65536) (⟨512 * p + e, by omega⟩ : Fin 2048))
      = Cert.Cell.tail (fun e => (V (Proc.devRef .tc main_v31_10) : FVec Ideal S128x8x4x64x512 .f32) (ix5 (⟨s / 64, by omega⟩ : Fin 128) a p (⟨s % 64, by omega⟩ : Fin 64) e))
        (fun e => (V (Proc.devRef .tc main_arg4) : FVec Ideal S65536x6144 .f32) (ix2 (Cert.Cell.rowN a s) ⟨2048 + (Cert.Cell.col p e).val, by have := (Cert.Cell.col p e).isLt; omega⟩))
        (fun e => (V (Proc.devRef .tc main_arg6) : FVec Ideal S1x2048 .f32) (ix2 (0 : Fin 1) (Cert.Cell.col p e)))
        (fun e => (V (Proc.devRef .tc main_arg7) : FVec Ideal S1x2048 .f32) (ix2 (0 : Fin 1) (Cert.Cell.col p e)))
        (fun e => (V (Proc.devRef .tc main_arg3) : FVec Ideal S65536x2048 .bf16) (ix2 (Cert.Cell.rowN a s) (Cert.Cell.col p e)))
        (fun e => (V (Proc.devRef .tc main_arg4) : FVec Ideal S65536x6144 .f32) (ix2 (Cert.Cell.rowN a s) ⟨4096 + (Cert.Cell.col p e).val, by have := (Cert.Cell.col p e).isLt; omega⟩)) e := by
  have hr : ∀ h : a.val * 8192 + s.val < 65536, (⟨a.val * 8192 + s.val, h⟩ : Fin 65536) = Cert.Cell.rowN a s := fun h =>
    Fin.ext (by show a.val * 8192 + s.val = (8192 * a.val + s.val) % 65536; omega)
  have hr' : ∀ h : 8192 * a.val + s.val < 65536, (⟨8192 * a.val + s.val, h⟩ : Fin 65536) = Cert.Cell.rowN a s := fun h =>
    Fin.ext (by show 8192 * a.val + s.val = (8192 * a.val + s.val) % 65536; omega)
  have hc : ∀ x : Fin 512, p.val * 512 + x.val = (Cert.Cell.col p x).val := fun x => by show _ = 512 * p.val + x.val; omega
  unfold out_main_v73 Cert.Cell.tail
  pointwise []
  simp only [hr, hr', hc, zero_sub]
  rfl

/-- The result at an entry, of a cell's output. -/
theorem out_at (q k v xc : FVec Ideal S65536x2048 .bf16) (proj : FVec Ideal S65536x6144 .f32) (g : FVec Ideal S65536x128 .f32) (hn sk : FVec Ideal S1x2048 .f32)
    (V : Valuation τ sig (Elt Ideal)) (h3 : V (Proc.devRef .tc main_arg3) = xc) (h4 : V (Proc.devRef .tc main_arg4) = proj)
    (h6 : V (Proc.devRef .tc main_arg6) = hn) (h7 : V (Proc.devRef .tc main_arg7) = sk)
    (ho : ∀ (i : Fin 128) a p (t : Fin 64) e, (V (Proc.devRef .tc main_v31_10) : FVec Ideal S128x8x4x64x512 .f32) (ix5 i a p t e)
      = ((hout (Cert.Cell.arr q a p) (Cert.Cell.arr k a p) (Cert.Cell.arr v a p) (Cert.Cell.gateI g a p) (Cert.Cell.gateF g a p) (64 * i + t) e : ℝ) : EReal))
    (a : Fin 8) (s : Fin 8192) (p : Fin 4) (e : Fin 512) :
    (out_main_v73 V : FVec Ideal S65536x2048 .bf16) (ix2 (⟨8192 * a + s, by omega⟩ : Fin 65536) (⟨512 * p + e, by omega⟩ : Fin 2048))
      = Cert.Cell.outR q k v xc proj g hn sk a s p e := by
  rw [tail5, h3, h4, h6, h7]
  unfold Cert.Cell.outR
  congr 1
  funext d
  refine (ho _ _ _ _ d).trans ?_
  show ((hout _ _ _ _ _ (64 * (s.val / 64) + s.val % 64) d : ℝ) : EReal) = _
  rw [show 64 * (s.val / 64) + s.val % 64 = s.val by omega]

/-- The reference's result is the layer's output. -/
theorem final (h : Cert.Cell.Reals (rq m c) (rk m c) (rv m c) (rg m c)) :
    (out_main_v73 (STEP^[128] (entryContents preI m c)) : FVec Ideal S65536x2048 .bf16)
      = Cert.Cell.OUT (rq m c) (rk m c) (rv m c) (m ((c.tc : Thread nD τ).loc main_arg3)) (m ((c.tc : Thread nD τ).loc main_arg4)) (rg m c)
        (m ((c.tc : Thread nD τ).loc main_arg6)) (m ((c.tc : Thread nD τ).loc main_arg7)) := by
  have hi := inv_all (entry m c h) 128 (le_refl _)
  have h3 := iter_main_arg3 m c 128
  have h4 := iter_main_arg4 m c 128
  have h6 := iter_main_arg6 m c 128
  have h7 := iter_main_arg7 m c 128
  generalize STEP^[128] (entryContents preI m c) = V at hi h3 h4 h6 h7 ⊢
  funext i
  obtain ⟨r, e, rfl⟩ : ∃ (r : Fin 65536) (e : Fin 2048), i = ix2 r e := ⟨i 0, i 1, eq_ix2 i⟩
  have hr := r.isLt
  have he := e.isLt
  have ho := out_at (rq m c) (rk m c) (rv m c) _ _ (rg m c) _ _ V h3 h4 h6 h7 (fun i a p t e => hi.out i i.isLt a p t e)
    ⟨r.val / 8192, by omega⟩ ⟨r.val % 8192, by omega⟩ ⟨e.val / 512 % 4, by omega⟩ ⟨e.val % 512, by omega⟩
  refine Eq.trans (congrArg₂ (fun (r : Fin 65536) (e : Fin 2048) => (out_main_v73 V : FVec Ideal S65536x2048 .bf16) (ix2 r e)) (Fin.ext ?_) (Fin.ext ?_)) ho
  · show r.val = 8192 * (r.val / 8192) + r.val % 8192; omega
  · show e.val = 512 * (e.val / 512 % 4) + e.val % 512; omega

end Cert.CellRef
end
-- ==== Proof.CellPair.lean ====
module

public import proofs.«01_k».proof.Defs
public import proofs.«01_k».proof.Proof.CellEntry
public import proofs.«01_k».proof.Proof.CellArr
public import proofs.«01_k».proof.Proof.Gen.Pre_finite
public import proofs.«01_k».proof.Proof.Gen.KernelIdeal.Frame
public import Idealize.ShloMosaic.Lib.ReduceAll
public import Idealize.ShloMosaic.Lib.Affine
public import Idealize.ShloMosaic.Lib.Pipeline.ValueKit
public import Idealize.ShloMosaic.Adequacy
public import Idealize.ShloMosaic.Init

@[expose] public section
noncomputable section
set_option maxRecDepth 16384

open Idealize.ShloMosaic Idealize.ShloMosaic.TcCoe Idealize.SL.Sem

/-! The mLSTM cell: kernel and reference end with the same array, where queries, keys, values and gates are real. -/

namespace Cert.CellPair
open Cert.Mlstm

/-- The word `0x7F800000` is the positive infinity. -/
theorem pinf : Ideal.ofBits .f32 0x7F800000#32 = ⊤ := by simp [Ideal.ofBits, Ideal.ieee]

/-- An extended real whose absolute value is below infinity is real. -/
theorem isReal_of_abs {x : EReal} (h : max x (-x) < ⊤) : IsReal x := by
  induction x using EReal.rec with
  | bot => simp at h
  | coe r => exact ⟨r, rfl⟩
  | top => simp at h

/-- An array all of whose absolute values compare below infinity is real at every index. -/
theorem real_at {s : Shape} {axes : List (Fin s.rank)} {t u : Shape} (hs : Subsingleton t.Idx) (x : FVec Ideal s .f32) (y : FVec Ideal s .f32)
    (hy : ∀ i, y i = (⊤ : EReal)) (init : IVec u 1) (h : s.ReducesTo axes t) (hu : 0 < u.numel) (j : t.Idx)
    (e : Host.reduce IntOp.andi (cmpf .olt (Host.absf x) y) init h hu j = 1#1) (i : s.Idx) : IsReal (x i) := by
  have h1 := Host.reduce_andi_all _ init h hu j e i
  have h2 : Ideal.cmp .olt (max (x i : EReal) (-(x i : EReal))) (y i) = 1#1 := h1
  rw [hy i] at h2
  exact isReal_of_abs ((Ideal.cmp_olt_eq_one _ _).1 h2)

/-- An array of no axes has one index. -/
theorem single : Subsingleton (Cert.Pre_finite.S_).Idx := ⟨fun a b => funext fun i => i.elim0⟩

attribute [local instance] Cert.Pre_finite.Gen.facts in
/-- The precondition makes queries, keys, values and the first eight gate lanes real. -/
theorem reals (q k v xc : FVec Ideal Cert.Pre_finite.S65536x2048 .bf16) (p : FVec Ideal Cert.Pre_finite.S65536x6144 .f32)
    (g : FVec Ideal Cert.Pre_finite.S65536x128 .f32) (a b : FVec Ideal Cert.Pre_finite.S1x2048 .f32)
    (h : Cert.Pre_finite.fn (F := Ideal) q k v xc p g a b = fun _ => 1#1) : Cert.Cell.Reals q k v g := by
  have h0 := congrFun h (fun i => i.elim0)
  dsimp only [Cert.Pre_finite.fn, Cert.Pre_finite.fn_part1] at h0
  obtain ⟨h1, hg⟩ := (IntOp.andi_eq_one).1 h0
  obtain ⟨h2, hv⟩ := (IntOp.andi_eq_one).1 h1
  obtain ⟨hq, hk⟩ := (IntOp.andi_eq_one).1 h2
  refine ⟨fun i => ?_, fun i => ?_, fun i => ?_, fun r j hj => ?_⟩
  · exact real_at single _ _ (fun _ => pinf) _ _ _ _ hq i
  · exact real_at single _ _ (fun _ => pinf) _ _ _ _ hk i
  · exact real_at single _ _ (fun _ => pinf) _ _ _ _ hv i
  · have := real_at single _ _ (fun _ => pinf) _ _ _ _ hg (ix2 r (⟨j.val, hj⟩ : Fin 8))
    have e : extractStridedSlice Cert.Pre_finite.S65536x8 ![0, 0] g Cert.Pre_finite.Facts.slices_S65536x128_S65536x8_0_0 (ix2 r (⟨j.val, hj⟩ : Fin 8)) = g (ix2 r j) := by
      pointwise []
    rw [← e]; exact this

attribute [local instance] Cert.KernelIdeal.Gen.facts Cert.ReferenceIdeal.Gen.facts Cert.Pre_finite.Gen.facts

/-- From memories that agree on the arguments, with real queries, keys, values and gates, kernel and reference end with the same array. -/
theorem algebraic : Cert.algebraic_KernelIdeal_ReferenceIdeal_pre_finite := by
  pair_intro
  · run_from Cert.KernelIdeal.Gen.run_main m g
  · refine (θ_run _ _ _).mono (fun r h c => ?_) (Cert.ReferenceIdeal.Value.run m' g')
    refine ⟨(h c).1.trans ?_, (h c).2⟩
    have hr := reals _ _ _ _ _ _ _ _ (hpre c)
    obtain ⟨a0, a1, a2, a3, a4, a5, a6, a7⟩ := hagree c
    have hr' : Cert.Cell.Reals (Cert.CellRef.rq m' c) (Cert.CellRef.rk m' c) (Cert.CellRef.rv m' c) (Cert.CellRef.rg m' c) := by
      unfold Cert.CellRef.rq Cert.CellRef.rk Cert.CellRef.rv Cert.CellRef.rg
      rw [a0, a1, a2, a5]; exact hr
    refine (Cert.CellRef.final m' c hr').trans ?_
    refine Eq.trans ?_ (Cert.Cell.final m c hr).symm
    unfold Cert.CellRef.rq Cert.CellRef.rk Cert.CellRef.rv Cert.CellRef.rg
    rw [a0, a1, a2, a3, a4, a5, a6, a7]

/-- The reference alone: it ends, nothing faults, its arguments are unchanged. -/
theorem refFrame : Cert.quiescent_ReferenceIdeal := by
  intro m g _
  exact (θ_run _ _ _).mono (fun r h => ⟨fun c => (h c).2, sem_eq_zero_of_no_sems rfl _⟩) (Cert.ReferenceIdeal.Value.run m g)

/-- The same under the precondition. -/
theorem refFramePre : Cert.quiescent_ReferenceIdeal_pre_finite := fun m g _ => refFrame m g trivial

end Cert.CellPair
end
-- ==== Proof.lean ====
module

public import proofs.«01_k».proof.Defs
public import proofs.«01_k».proof.Proof.Gen.KernelIn
public import proofs.«01_k».proof.Proof.Gen.KernelIn.Frame
public import proofs.«01_k».proof.Proof.ProjIn
public import proofs.«01_k».proof.Proof.Gen.KernelKv
public import proofs.«01_k».proof.Proof.Gen.KernelKv.Frame
public import proofs.«01_k».proof.Proof.ProjKv
public import proofs.«01_k».proof.Proof.Gen.KernelQ
public import proofs.«01_k».proof.Proof.Gen.KernelQ.Frame
public import proofs.«01_k».proof.Proof.ProjQ
public import proofs.«01_k».proof.Proof.Gen.KernelR
public import proofs.«01_k».proof.Proof.Gen.KernelR.Frame
public import proofs.«01_k».proof.Proof.ProjR
public import proofs.«01_k».proof.Proof.Gen.KernelOut
public import proofs.«01_k».proof.Proof.Gen.KernelOut.Frame
public import proofs.«01_k».proof.Proof.ProjOut
public import proofs.«01_k».proof.Proof.Gen.KernelCmp
public import proofs.«01_k».proof.Proof.Gen.KernelCmp.Frame
public import proofs.«01_k».proof.Proof.CmpPair
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.CellPair
public import Idealize.ShloMosaic.Adequacy
public import Idealize.ShloMosaic.Init

@[expose] public section

noncomputable section

namespace Cert.Proof

open Idealize.ShloMosaic Idealize.SL.Sem

theorem claim : Cert.Claim := ⟨Cert.KernelIn.Gen.facts, Cert.KernelInIdeal.Gen.facts, Cert.ReferenceInIdeal.Gen.facts,
  Cert.KernelKv.Gen.facts, Cert.KernelKvIdeal.Gen.facts, Cert.ReferenceKvIdeal.Gen.facts,
  Cert.KernelQ.Gen.facts, Cert.KernelQIdeal.Gen.facts, Cert.ReferenceQIdeal.Gen.facts,
  Cert.KernelR.Gen.facts, Cert.KernelRIdeal.Gen.facts, Cert.ReferenceRIdeal.Gen.facts,
  Cert.KernelOut.Gen.facts, Cert.KernelOutIdeal.Gen.facts, Cert.ReferenceOutIdeal.Gen.facts,
  Cert.KernelCmp.Gen.facts, Cert.KernelCmpIdeal.Gen.facts, Cert.ReferenceCmpIdeal.Gen.facts,
  Cert.Kernel.Gen.facts, Cert.KernelIdeal.Gen.facts, Cert.ReferenceIdeal.Gen.facts, Cert.Pre_finite.Gen.facts,
  fun m ρ _ => Cert.KernelIn.Gen.frame m ρ, fun m ρ _ => Cert.KernelInIdeal.Gen.frame m ρ, Cert.KernelInIdeal.Value.refFrame,
  fun m ρ _ => Cert.KernelKv.Gen.frame m ρ, fun m ρ _ => Cert.KernelKvIdeal.Gen.frame m ρ, Cert.KernelKvIdeal.Value.refFrame,
  fun m ρ _ => Cert.KernelQ.Gen.frame m ρ, fun m ρ _ => Cert.KernelQIdeal.Gen.frame m ρ, Cert.KernelQIdeal.Value.refFrame,
  fun m ρ _ => Cert.KernelR.Gen.frame m ρ, fun m ρ _ => Cert.KernelRIdeal.Gen.frame m ρ, Cert.KernelRIdeal.Value.refFrame,
  fun m ρ _ => Cert.KernelOut.Gen.frame m ρ, fun m ρ _ => Cert.KernelOutIdeal.Gen.frame m ρ, Cert.KernelOutIdeal.Value.refFrame,
  fun m ρ _ => Cert.KernelCmp.Gen.frame m ρ, fun m ρ _ => Cert.KernelCmpIdeal.Gen.frame m ρ, Cert.CmpPair.refFrame,
  fun m ρ _ => Cert.Kernel.Gen.frame m ρ, fun m ρ _ => Cert.KernelIdeal.Gen.frame m ρ, fun m ρ _ => Cert.KernelIdeal.Gen.frame m ρ,
  Cert.CellPair.refFrame, Cert.CellPair.refFramePre,
  trivial, Cert.KernelInIdeal.Value.algebraic,
  trivial, Cert.KernelKvIdeal.Value.algebraic,
  trivial, Cert.KernelQIdeal.Value.algebraic,
  trivial, Cert.KernelRIdeal.Value.algebraic,
  trivial, Cert.KernelOutIdeal.Value.algebraic,
  trivial, Cert.CmpPair.algebraic,
  trivial, Cert.CellPair.algebraic⟩

end Cert.Proof

end
